-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S4x2x128x2048 : Shape := ⟨4, ![4, 2, 128, 2048]⟩
abbrev S4x2 : Shape := ⟨2, ![4, 2]⟩
abbrev S8x128 : Shape := ⟨2, ![8, 128]⟩
abbrev S32x8x128 : Shape := ⟨3, ![32, 8, 128]⟩
abbrev S32 : Shape := ⟨1, ![32]⟩
abbrev S_ : Shape := ⟨0, ![]⟩
abbrev S128x128 : Shape := ⟨2, ![128, 128]⟩
abbrev S128x2048 : Shape := ⟨2, ![128, 2048]⟩
abbrev S1x1x128x2048 : Shape := ⟨4, ![1, 1, 128, 2048]⟩
abbrev S1x1 : Shape := ⟨2, ![1, 1]⟩
abbrev S128x4096 : Shape := ⟨2, ![128, 4096]⟩
abbrev S1x128x2048 : Shape := ⟨3, ![1, 128, 2048]⟩
abbrev S1 : Shape := ⟨1, ![1]⟩
abbrev S1x1x1 : Shape := ⟨3, ![1, 1, 1]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S128x8192, .f32⟩
  | .hbm, ⟨2, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S128x8192, .f32⟩
  | .local _ .vmem, ⟨3, _⟩ => ⟨S4x2x128x2048, .f32⟩
  | .local _ .vmem, ⟨4, _⟩ => ⟨S8x128, .f32⟩
  | .local _ .vmem, ⟨5, _⟩ => ⟨S32x8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 9 83 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch4 : Ref sig .tc := ⟨.vmem, 4, rfl⟩
abbrev cc0_scratch5 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 8

abbrev nD : Nat := 32
abbrev τ : Topo := Topo.v7x

variable {F : FTy → Type} [FloatOps F]

abbrev grid0 : Pipeline.Grid := .none

def k0_dev1 (d0 : Dev nD) : Nat :=
  let c0_i32_127 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_126 : BitVec 32 := 1#32
  let v236 : BitVec 32 := Scalar.muli v234 c1_i32_126
  let v237 : BitVec 32 := Scalar.addi c0_i32_127 v236
  v237.toNat
def k0_dev2 (d0 : Dev nD) : Nat :=
  let c0_i32_130 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_129 : BitVec 32 := 1#32
  let v238 : BitVec 32 := Scalar.muli v160 c1_i32_129
  let v239 : BitVec 32 := Scalar.addi c0_i32_130 v238
  v239.toNat
def k0_off1 (d0 : Dev nD) (c_m1_i32 : BitVec 32) (c32_i32_132 : BitVec 32) : Fin 2 → Nat :=
  let c8_i32_174 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let v240 : BitVec 32 := Scalar.addi v87 c_m1_i32
  let v241 : BitVec 32 := Scalar.addi v240 c32_i32_132
  let c32_i32_133 : BitVec 32 := 32#32
  let c0_i32_134 : BitVec 32 := 0#32
  let v242 : BitVec 1 := Scalar.cmpi .eq c32_i32_133 c0_i32_134
  let c1_i32_135 : BitVec 32 := 1#32
  let v243 : BitVec 32 := Scalar.select v242 c1_i32_135 c32_i32_133
  let v244 : BitVec 32 := Scalar.remsi v241 v243
  let c0_i32_137 : BitVec 32 := 0#32
  let v246 : BitVec 1 := Scalar.cmpi .slt v244 c0_i32_137
  let c0_i32_138 : BitVec 32 := 0#32
  let v247 : BitVec 1 := Scalar.cmpi .slt v243 c0_i32_138
  let v248 : BitVec 1 := Scalar.xori v246 v247
  let c0_i32_136 : BitVec 32 := 0#32
  let v245 : BitVec 1 := Scalar.cmpi .ne v244 c0_i32_136
  let v249 : BitVec 1 := Scalar.andi v248 v245
  let v250 : BitVec 32 := Scalar.addi v244 v243
  let v251 : BitVec 32 := Scalar.select v249 v250 v244
  let c16_i32_142 : BitVec 32 := 16#32
  let v254 : BitVec 1 := Scalar.cmpi .slt v251 c16_i32_142
  let c31_i32_143 : BitVec 32 := 31#32
  let v255 : BitVec 32 := Scalar.subi c31_i32_143 v251
  let v256 : BitVec 32 := Scalar.select v254 v251 v255
  let c0_i32_145 : BitVec 32 := 0#32
  let v258 : BitVec 1 := Scalar.cmpi .sgt v256 c0_i32_145
  let v259 : BitVec 32 := Scalar.extui v258
  let c0_i32_146 : BitVec 32 := 0#32
  let v260 : BitVec 1 := Scalar.cmpi .slt v256 c0_i32_146
  let v261 : BitVec 32 := Scalar.extui v260
  let v262 : BitVec 32 := Scalar.subi v259 v261
  let c4_i32_144 : BitVec 32 := 4#32
  let c0_i32_147 : BitVec 32 := 0#32
  let v263 : BitVec 1 := Scalar.cmpi .sgt c4_i32_144 c0_i32_147
  let v264 : BitVec 32 := Scalar.extui v263
  let c0_i32_148 : BitVec 32 := 0#32
  let v265 : BitVec 1 := Scalar.cmpi .slt c4_i32_144 c0_i32_148
  let v266 : BitVec 32 := Scalar.extui v265
  let v267 : BitVec 32 := Scalar.subi v264 v266
  let v268 : BitVec 1 := Scalar.cmpi .ne v262 v267
  let v269 : BitVec 32 := Scalar.remsi v256 c4_i32_144
  let c0_i32_149 : BitVec 32 := 0#32
  let v270 : BitVec 1 := Scalar.cmpi .ne v269 c0_i32_149
  let v271 : BitVec 1 := Scalar.andi v268 v270
  let v257 : BitVec 32 := Scalar.divsi v256 c4_i32_144
  let c1_i32_150 : BitVec 32 := 1#32
  let v272 : BitVec 32 := Scalar.subi v257 c1_i32_150
  let v273 : BitVec 32 := Scalar.select v271 v272 v257
  let v312 : BitVec 32 := Scalar.muli c8_i32_174 v273
  let c2_i32_165 : BitVec 32 := 2#32
  let c2_i32_157 : BitVec 32 := 2#32
  let c0_i32_158 : BitVec 32 := 0#32
  let v284 : BitVec 1 := Scalar.cmpi .eq c2_i32_157 c0_i32_158
  let c1_i32_159 : BitVec 32 := 1#32
  let v285 : BitVec 32 := Scalar.select v284 c1_i32_159 c2_i32_157
  let v286 : BitVec 32 := Scalar.remsi v273 v285
  let c0_i32_161 : BitVec 32 := 0#32
  let v288 : BitVec 1 := Scalar.cmpi .slt v286 c0_i32_161
  let c0_i32_162 : BitVec 32 := 0#32
  let v289 : BitVec 1 := Scalar.cmpi .slt v285 c0_i32_162
  let v290 : BitVec 1 := Scalar.xori v288 v289
  let c0_i32_160 : BitVec 32 := 0#32
  let v287 : BitVec 1 := Scalar.cmpi .ne v286 c0_i32_160
  let v291 : BitVec 1 := Scalar.andi v290 v287
  let v292 : BitVec 32 := Scalar.addi v286 v285
  let v293 : BitVec 32 := Scalar.select v291 v292 v286
  let c0_i32_163 : BitVec 32 := 0#32
  let v294 : BitVec 1 := Scalar.cmpi .eq v293 c0_i32_163
  let c4_i32_151 : BitVec 32 := 4#32
  let c0_i32_152 : BitVec 32 := 0#32
  let v274 : BitVec 1 := Scalar.cmpi .eq c4_i32_151 c0_i32_152
  let c1_i32_153 : BitVec 32 := 1#32
  let v275 : BitVec 32 := Scalar.select v274 c1_i32_153 c4_i32_151
  let v276 : BitVec 32 := Scalar.remsi v256 v275
  let c0_i32_155 : BitVec 32 := 0#32
  let v278 : BitVec 1 := Scalar.cmpi .slt v276 c0_i32_155
  let c0_i32_156 : BitVec 32 := 0#32
  let v279 : BitVec 1 := Scalar.cmpi .slt v275 c0_i32_156
  let v280 : BitVec 1 := Scalar.xori v278 v279
  let c0_i32_154 : BitVec 32 := 0#32
  let v277 : BitVec 1 := Scalar.cmpi .ne v276 c0_i32_154
  let v281 : BitVec 1 := Scalar.andi v280 v277
  let v282 : BitVec 32 := Scalar.addi v276 v275
  let v283 : BitVec 32 := Scalar.select v281 v282 v276
  let c3_i32_164 : BitVec 32 := 3#32
  let v295 : BitVec 32 := Scalar.subi c3_i32_164 v283
  let v296 : BitVec 32 := Scalar.select v294 v283 v295
  let v297 : BitVec 32 := Scalar.muli c2_i32_165 v296
  let c2_i32_166 : BitVec 32 := 2#32
  let c0_i32_167 : BitVec 32 := 0#32
  let v298 : BitVec 1 := Scalar.cmpi .eq c2_i32_166 c0_i32_167
  let c1_i32_168 : BitVec 32 := 1#32
  let v299 : BitVec 32 := Scalar.select v298 c1_i32_168 c2_i32_166
  let v300 : BitVec 32 := Scalar.remsi v296 v299
  let c0_i32_170 : BitVec 32 := 0#32
  let v302 : BitVec 1 := Scalar.cmpi .slt v300 c0_i32_170
  let c0_i32_171 : BitVec 32 := 0#32
  let v303 : BitVec 1 := Scalar.cmpi .slt v299 c0_i32_171
  let v304 : BitVec 1 := Scalar.xori v302 v303
  let c0_i32_169 : BitVec 32 := 0#32
  let v301 : BitVec 1 := Scalar.cmpi .ne v300 c0_i32_169
  let v305 : BitVec 1 := Scalar.andi v304 v301
  let v306 : BitVec 32 := Scalar.addi v300 v299
  let v307 : BitVec 32 := Scalar.select v305 v306 v300
  let c0_i32_172 : BitVec 32 := 0#32
  let v308 : BitVec 1 := Scalar.cmpi .eq v307 c0_i32_172
  let c16_i32_139 : BitVec 32 := 16#32
  let v252 : BitVec 1 := Scalar.cmpi .slt v251 c16_i32_139
  let c0_i32_140 : BitVec 32 := 0#32
  let c1_i32_141 : BitVec 32 := 1#32
  let v253 : BitVec 32 := Scalar.select v252 c0_i32_140 c1_i32_141
  let c1_i32_173 : BitVec 32 := 1#32
  let v309 : BitVec 32 := Scalar.subi c1_i32_173 v253
  let v310 : BitVec 32 := Scalar.select v308 v253 v309
  let v311 : BitVec 32 := Scalar.addi v297 v310
  let v313 : BitVec 32 := Scalar.addi v312 v311
  let c128_i32 : BitVec 32 := 128#32
  let v314 : BitVec 32 := Scalar.muli v313 c128_i32
  let v315 : Index := Scalar.indexCast v314
  let c0 : Index := 0#32
  ![v315.toNat, 0]
def k0_off1_at (r : Fin 64) : BitVec 32 × BitVec 32 :=
  if r.val < 32 then
    if r.val < 16 then
      if r.val < 8 then
        if r.val < 4 then
          if r.val < 2 then
            if r.val < 1 then
              (4294967295#32, 32#32)
            else
              (1#32, 32#32)
          else
            if r.val < 3 then
              (4294967294#32, 64#32)
            else
              (2#32, 64#32)
        else
          if r.val < 6 then
            if r.val < 5 then
              (4294967293#32, 64#32)
            else
              (3#32, 64#32)
          else
            if r.val < 7 then
              (4294967292#32, 64#32)
            else
              (4#32, 64#32)
      else
        if r.val < 12 then
          if r.val < 10 then
            if r.val < 9 then
              (4294967291#32, 64#32)
            else
              (5#32, 64#32)
          else
            if r.val < 11 then
              (4294967290#32, 64#32)
            else
              (6#32, 64#32)
        else
          if r.val < 14 then
            if r.val < 13 then
              (4294967289#32, 64#32)
            else
              (7#32, 64#32)
          else
            if r.val < 15 then
              (4294967288#32, 64#32)
            else
              (8#32, 64#32)
    else
      if r.val < 24 then
        if r.val < 20 then
          if r.val < 18 then
            if r.val < 17 then
              (4294967287#32, 64#32)
            else
              (9#32, 64#32)
          else
            if r.val < 19 then
              (4294967286#32, 64#32)
            else
              (10#32, 64#32)
        else
          if r.val < 22 then
            if r.val < 21 then
              (4294967285#32, 64#32)
            else
              (11#32, 64#32)
          else
            if r.val < 23 then
              (4294967284#32, 64#32)
            else
              (12#32, 64#32)
      else
        if r.val < 28 then
          if r.val < 26 then
            if r.val < 25 then
              (4294967283#32, 64#32)
            else
              (13#32, 64#32)
          else
            if r.val < 27 then
              (4294967282#32, 64#32)
            else
              (14#32, 64#32)
        else
          if r.val < 30 then
            if r.val < 29 then
              (4294967281#32, 64#32)
            else
              (15#32, 64#32)
          else
            if r.val < 31 then
              (4294967280#32, 64#32)
            else
              (16#32, 64#32)
  else
    if r.val < 48 then
      if r.val < 40 then
        if r.val < 36 then
          if r.val < 34 then
            if r.val < 33 then
              (4294967279#32, 64#32)
            else
              (17#32, 64#32)
          else
            if r.val < 35 then
              (4294967278#32, 64#32)
            else
              (18#32, 64#32)
        else
          if r.val < 38 then
            if r.val < 37 then
              (4294967277#32, 64#32)
            else
              (19#32, 64#32)
          else
            if r.val < 39 then
              (4294967276#32, 64#32)
            else
              (20#32, 64#32)
      else
        if r.val < 44 then
          if r.val < 42 then
            if r.val < 41 then
              (4294967275#32, 64#32)
            else
              (21#32, 64#32)
          else
            if r.val < 43 then
              (4294967274#32, 64#32)
            else
              (22#32, 64#32)
        else
          if r.val < 46 then
            if r.val < 45 then
              (4294967273#32, 64#32)
            else
              (23#32, 64#32)
          else
            if r.val < 47 then
              (4294967272#32, 64#32)
            else
              (24#32, 64#32)
    else
      if r.val < 56 then
        if r.val < 52 then
          if r.val < 50 then
            if r.val < 49 then
              (4294967271#32, 64#32)
            else
              (25#32, 64#32)
          else
            if r.val < 51 then
              (4294967270#32, 64#32)
            else
              (26#32, 64#32)
        else
          if r.val < 54 then
            if r.val < 53 then
              (4294967269#32, 64#32)
            else
              (27#32, 64#32)
          else
            if r.val < 55 then
              (4294967268#32, 64#32)
            else
              (28#32, 64#32)
      else
        if r.val < 60 then
          if r.val < 58 then
            if r.val < 57 then
              (4294967267#32, 64#32)
            else
              (29#32, 64#32)
          else
            if r.val < 59 then
              (4294967266#32, 64#32)
            else
              (30#32, 64#32)
        else
          if r.val < 62 then
            if r.val < 61 then
              (4294967265#32, 64#32)
            else
              (31#32, 64#32)
          else
            if r.val < 63 then
              (4294967264#32, 64#32)
            else
              (32#32, 64#32)
def k0_dev3 (d0 : Dev nD) : Nat :=
  let c0_i32_190 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_189 : BitVec 32 := 1#32
  let v324 : BitVec 32 := Scalar.muli v160 c1_i32_189
  let v325 : BitVec 32 := Scalar.addi c0_i32_190 v324
  v325.toNat
def k0_dev4 (d0 : Dev nD) : Nat :=
  let c0_i32_255 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_254 : BitVec 32 := 1#32
  let v418 : BitVec 32 := Scalar.muli v234 c1_i32_254
  let v419 : BitVec 32 := Scalar.addi c0_i32_255 v418
  v419.toNat
def k0_dev5 (d0 : Dev nD) : Nat :=
  let c0_i32_320 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_319 : BitVec 32 := 1#32
  let v512 : BitVec 32 := Scalar.muli v160 c1_i32_319
  let v513 : BitVec 32 := Scalar.addi c0_i32_320 v512
  v513.toNat
def k0_dev6 (d0 : Dev nD) : Nat :=
  let c0_i32_385 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_384 : BitVec 32 := 1#32
  let v606 : BitVec 32 := Scalar.muli v234 c1_i32_384
  let v607 : BitVec 32 := Scalar.addi c0_i32_385 v606
  v607.toNat
def k0_dev7 (d0 : Dev nD) : Nat :=
  let c0_i32_517 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_516 : BitVec 32 := 1#32
  let v794 : BitVec 32 := Scalar.muli v234 c1_i32_516
  let v795 : BitVec 32 := Scalar.addi c0_i32_517 v794
  v795.toNat
def k0_dev8 (d0 : Dev nD) : Nat :=
  let c0_i32_539 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_538 : BitVec 32 := 1#32
  let v805 : BitVec 32 := Scalar.muli v160 c1_i32_538
  let v806 : BitVec 32 := Scalar.addi c0_i32_539 v805
  v806.toNat
def k0_dev9 (d0 : Dev nD) : Nat :=
  let c0_i32_575 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_574 : BitVec 32 := 1#32
  let v831 : BitVec 32 := Scalar.muli v160 c1_i32_574
  let v832 : BitVec 32 := Scalar.addi c0_i32_575 v831
  v832.toNat
def k0_dev10 (d0 : Dev nD) : Nat :=
  let c0_i32_597 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_596 : BitVec 32 := 1#32
  let v842 : BitVec 32 := Scalar.muli v234 c1_i32_596
  let v843 : BitVec 32 := Scalar.addi c0_i32_597 v842
  v843.toNat
def k0_dev11 (d0 : Dev nD) : Nat :=
  let c0_i32_633 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_632 : BitVec 32 := 1#32
  let v868 : BitVec 32 := Scalar.muli v234 c1_i32_632
  let v869 : BitVec 32 := Scalar.addi c0_i32_633 v868
  v869.toNat
def k0_dev12 (d0 : Dev nD) : Nat :=
  let c0_i32_655 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_654 : BitVec 32 := 1#32
  let v879 : BitVec 32 := Scalar.muli v160 c1_i32_654
  let v880 : BitVec 32 := Scalar.addi c0_i32_655 v879
  v880.toNat
def k0_dev13 (d0 : Dev nD) : Nat :=
  let c0_i32_691 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_690 : BitVec 32 := 1#32
  let v905 : BitVec 32 := Scalar.muli v160 c1_i32_690
  let v906 : BitVec 32 := Scalar.addi c0_i32_691 v905
  v906.toNat
def k0_dev14 (d0 : Dev nD) : Nat :=
  let c0_i32_713 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_712 : BitVec 32 := 1#32
  let v916 : BitVec 32 := Scalar.muli v234 c1_i32_712
  let v917 : BitVec 32 := Scalar.addi c0_i32_713 v916
  v917.toNat
def k0_dev15 (d0 : Dev nD) : Nat :=
  let c0_i32_846 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_845 : BitVec 32 := 1#32
  let v1104 : BitVec 32 := Scalar.muli v234 c1_i32_845
  let v1105 : BitVec 32 := Scalar.addi c0_i32_846 v1104
  v1105.toNat
def k0_dev16 (d0 : Dev nD) : Nat :=
  let c0_i32_868 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_867 : BitVec 32 := 1#32
  let v1115 : BitVec 32 := Scalar.muli v160 c1_i32_867
  let v1116 : BitVec 32 := Scalar.addi c0_i32_868 v1115
  v1116.toNat
def k0_dev17 (d0 : Dev nD) : Nat :=
  let c0_i32_904 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_903 : BitVec 32 := 1#32
  let v1141 : BitVec 32 := Scalar.muli v160 c1_i32_903
  let v1142 : BitVec 32 := Scalar.addi c0_i32_904 v1141
  v1142.toNat
def k0_dev18 (d0 : Dev nD) : Nat :=
  let c0_i32_926 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_925 : BitVec 32 := 1#32
  let v1152 : BitVec 32 := Scalar.muli v234 c1_i32_925
  let v1153 : BitVec 32 := Scalar.addi c0_i32_926 v1152
  v1153.toNat
def k0_dev19 (d0 : Dev nD) : Nat :=
  let c0_i32_962 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_961 : BitVec 32 := 1#32
  let v1178 : BitVec 32 := Scalar.muli v234 c1_i32_961
  let v1179 : BitVec 32 := Scalar.addi c0_i32_962 v1178
  v1179.toNat
def k0_dev20 (d0 : Dev nD) : Nat :=
  let c0_i32_984 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_983 : BitVec 32 := 1#32
  let v1189 : BitVec 32 := Scalar.muli v160 c1_i32_983
  let v1190 : BitVec 32 := Scalar.addi c0_i32_984 v1189
  v1190.toNat
def k0_dev21 (d0 : Dev nD) : Nat :=
  let c0_i32_1020 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_1019 : BitVec 32 := 1#32
  let v1215 : BitVec 32 := Scalar.muli v160 c1_i32_1019
  let v1216 : BitVec 32 := Scalar.addi c0_i32_1020 v1215
  v1216.toNat
def k0_dev22 (d0 : Dev nD) : Nat :=
  let c0_i32_1042 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_1041 : BitVec 32 := 1#32
  let v1226 : BitVec 32 := Scalar.muli v234 c1_i32_1041
  let v1227 : BitVec 32 := Scalar.addi c0_i32_1042 v1226
  v1227.toNat
def k0_dev23 (d0 : Dev nD) : Nat :=
  let c0_i32_1175 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_1174 : BitVec 32 := 1#32
  let v1414 : BitVec 32 := Scalar.muli v234 c1_i32_1174
  let v1415 : BitVec 32 := Scalar.addi c0_i32_1175 v1414
  v1415.toNat
def k0_dev24 (d0 : Dev nD) : Nat :=
  let c0_i32_1197 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_1196 : BitVec 32 := 1#32
  let v1425 : BitVec 32 := Scalar.muli v160 c1_i32_1196
  let v1426 : BitVec 32 := Scalar.addi c0_i32_1197 v1425
  v1426.toNat
def k0_dev25 (d0 : Dev nD) : Nat :=
  let c0_i32_1233 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_1232 : BitVec 32 := 1#32
  let v1451 : BitVec 32 := Scalar.muli v160 c1_i32_1232
  let v1452 : BitVec 32 := Scalar.addi c0_i32_1233 v1451
  v1452.toNat
def k0_dev26 (d0 : Dev nD) : Nat :=
  let c0_i32_1255 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_1254 : BitVec 32 := 1#32
  let v1462 : BitVec 32 := Scalar.muli v234 c1_i32_1254
  let v1463 : BitVec 32 := Scalar.addi c0_i32_1255 v1462
  v1463.toNat
def k0_dev27 (d0 : Dev nD) : Nat :=
  let c0_i32_1291 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_1290 : BitVec 32 := 1#32
  let v1488 : BitVec 32 := Scalar.muli v234 c1_i32_1290
  let v1489 : BitVec 32 := Scalar.addi c0_i32_1291 v1488
  v1489.toNat
def k0_dev28 (d0 : Dev nD) : Nat :=
  let c0_i32_1313 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_1312 : BitVec 32 := 1#32
  let v1499 : BitVec 32 := Scalar.muli v160 c1_i32_1312
  let v1500 : BitVec 32 := Scalar.addi c0_i32_1313 v1499
  v1500.toNat
def k0_dev29 (d0 : Dev nD) : Nat :=
  let c0_i32_1349 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_1348 : BitVec 32 := 1#32
  let v1525 : BitVec 32 := Scalar.muli v160 c1_i32_1348
  let v1526 : BitVec 32 := Scalar.addi c0_i32_1349 v1525
  v1526.toNat
def k0_dev30 (d0 : Dev nD) : Nat :=
  let c0_i32_1371 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_1370 : BitVec 32 := 1#32
  let v1536 : BitVec 32 := Scalar.muli v234 c1_i32_1370
  let v1537 : BitVec 32 := Scalar.addi c0_i32_1371 v1536
  v1537.toNat
def k0_dev31 (d0 : Dev nD) : Nat :=
  let c0_i32_1503 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_1502 : BitVec 32 := 1#32
  let v1724 : BitVec 32 := Scalar.muli v234 c1_i32_1502
  let v1725 : BitVec 32 := Scalar.addi c0_i32_1503 v1724
  v1725.toNat
def k0_dev32 (d0 : Dev nD) : Nat :=
  let c0_i32_1525 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_1524 : BitVec 32 := 1#32
  let v1735 : BitVec 32 := Scalar.muli v160 c1_i32_1524
  let v1736 : BitVec 32 := Scalar.addi c0_i32_1525 v1735
  v1736.toNat
def k0_dev33 (d0 : Dev nD) : Nat :=
  let c0_i32_1561 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_1560 : BitVec 32 := 1#32
  let v1761 : BitVec 32 := Scalar.muli v160 c1_i32_1560
  let v1762 : BitVec 32 := Scalar.addi c0_i32_1561 v1761
  v1762.toNat
def k0_dev34 (d0 : Dev nD) : Nat :=
  let c0_i32_1583 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_1582 : BitVec 32 := 1#32
  let v1772 : BitVec 32 := Scalar.muli v234 c1_i32_1582
  let v1773 : BitVec 32 := Scalar.addi c0_i32_1583 v1772
  v1773.toNat
def k0_dev35 (d0 : Dev nD) : Nat :=
  let c0_i32_1619 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_1618 : BitVec 32 := 1#32
  let v1798 : BitVec 32 := Scalar.muli v234 c1_i32_1618
  let v1799 : BitVec 32 := Scalar.addi c0_i32_1619 v1798
  v1799.toNat
def k0_dev36 (d0 : Dev nD) : Nat :=
  let c0_i32_1641 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_1640 : BitVec 32 := 1#32
  let v1809 : BitVec 32 := Scalar.muli v160 c1_i32_1640
  let v1810 : BitVec 32 := Scalar.addi c0_i32_1641 v1809
  v1810.toNat
def k0_dev37 (d0 : Dev nD) : Nat :=
  let c0_i32_1677 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_1676 : BitVec 32 := 1#32
  let v1835 : BitVec 32 := Scalar.muli v160 c1_i32_1676
  let v1836 : BitVec 32 := Scalar.addi c0_i32_1677 v1835
  v1836.toNat
def k0_dev38 (d0 : Dev nD) : Nat :=
  let c0_i32_1699 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_1698 : BitVec 32 := 1#32
  let v1846 : BitVec 32 := Scalar.muli v234 c1_i32_1698
  let v1847 : BitVec 32 := Scalar.addi c0_i32_1699 v1846
  v1847.toNat
def k0_dev39 (d0 : Dev nD) : Nat :=
  let c0_i32_1831 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_1830 : BitVec 32 := 1#32
  let v2034 : BitVec 32 := Scalar.muli v234 c1_i32_1830
  let v2035 : BitVec 32 := Scalar.addi c0_i32_1831 v2034
  v2035.toNat
def k0_dev40 (d0 : Dev nD) : Nat :=
  let c0_i32_1853 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_1852 : BitVec 32 := 1#32
  let v2045 : BitVec 32 := Scalar.muli v160 c1_i32_1852
  let v2046 : BitVec 32 := Scalar.addi c0_i32_1853 v2045
  v2046.toNat
def k0_dev41 (d0 : Dev nD) : Nat :=
  let c0_i32_1889 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_1888 : BitVec 32 := 1#32
  let v2071 : BitVec 32 := Scalar.muli v160 c1_i32_1888
  let v2072 : BitVec 32 := Scalar.addi c0_i32_1889 v2071
  v2072.toNat
def k0_dev42 (d0 : Dev nD) : Nat :=
  let c0_i32_1911 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_1910 : BitVec 32 := 1#32
  let v2082 : BitVec 32 := Scalar.muli v234 c1_i32_1910
  let v2083 : BitVec 32 := Scalar.addi c0_i32_1911 v2082
  v2083.toNat
def k0_dev43 (d0 : Dev nD) : Nat :=
  let c0_i32_1947 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_1946 : BitVec 32 := 1#32
  let v2108 : BitVec 32 := Scalar.muli v234 c1_i32_1946
  let v2109 : BitVec 32 := Scalar.addi c0_i32_1947 v2108
  v2109.toNat
def k0_dev44 (d0 : Dev nD) : Nat :=
  let c0_i32_1969 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_1968 : BitVec 32 := 1#32
  let v2119 : BitVec 32 := Scalar.muli v160 c1_i32_1968
  let v2120 : BitVec 32 := Scalar.addi c0_i32_1969 v2119
  v2120.toNat
def k0_dev45 (d0 : Dev nD) : Nat :=
  let c0_i32_2005 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2004 : BitVec 32 := 1#32
  let v2145 : BitVec 32 := Scalar.muli v160 c1_i32_2004
  let v2146 : BitVec 32 := Scalar.addi c0_i32_2005 v2145
  v2146.toNat
def k0_dev46 (d0 : Dev nD) : Nat :=
  let c0_i32_2027 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_2026 : BitVec 32 := 1#32
  let v2156 : BitVec 32 := Scalar.muli v234 c1_i32_2026
  let v2157 : BitVec 32 := Scalar.addi c0_i32_2027 v2156
  v2157.toNat
def k0_dev47 (d0 : Dev nD) : Nat :=
  let c0_i32_2159 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_2158 : BitVec 32 := 1#32
  let v2344 : BitVec 32 := Scalar.muli v234 c1_i32_2158
  let v2345 : BitVec 32 := Scalar.addi c0_i32_2159 v2344
  v2345.toNat
def k0_dev48 (d0 : Dev nD) : Nat :=
  let c0_i32_2181 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2180 : BitVec 32 := 1#32
  let v2355 : BitVec 32 := Scalar.muli v160 c1_i32_2180
  let v2356 : BitVec 32 := Scalar.addi c0_i32_2181 v2355
  v2356.toNat
def k0_dev49 (d0 : Dev nD) : Nat :=
  let c0_i32_2217 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2216 : BitVec 32 := 1#32
  let v2381 : BitVec 32 := Scalar.muli v160 c1_i32_2216
  let v2382 : BitVec 32 := Scalar.addi c0_i32_2217 v2381
  v2382.toNat
def k0_dev50 (d0 : Dev nD) : Nat :=
  let c0_i32_2239 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_2238 : BitVec 32 := 1#32
  let v2392 : BitVec 32 := Scalar.muli v234 c1_i32_2238
  let v2393 : BitVec 32 := Scalar.addi c0_i32_2239 v2392
  v2393.toNat
def k0_dev51 (d0 : Dev nD) : Nat :=
  let c0_i32_2275 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_2274 : BitVec 32 := 1#32
  let v2418 : BitVec 32 := Scalar.muli v234 c1_i32_2274
  let v2419 : BitVec 32 := Scalar.addi c0_i32_2275 v2418
  v2419.toNat
def k0_dev52 (d0 : Dev nD) : Nat :=
  let c0_i32_2297 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2296 : BitVec 32 := 1#32
  let v2429 : BitVec 32 := Scalar.muli v160 c1_i32_2296
  let v2430 : BitVec 32 := Scalar.addi c0_i32_2297 v2429
  v2430.toNat
def k0_dev53 (d0 : Dev nD) : Nat :=
  let c0_i32_2333 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2332 : BitVec 32 := 1#32
  let v2455 : BitVec 32 := Scalar.muli v160 c1_i32_2332
  let v2456 : BitVec 32 := Scalar.addi c0_i32_2333 v2455
  v2456.toNat
def k0_dev54 (d0 : Dev nD) : Nat :=
  let c0_i32_2355 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_2354 : BitVec 32 := 1#32
  let v2466 : BitVec 32 := Scalar.muli v234 c1_i32_2354
  let v2467 : BitVec 32 := Scalar.addi c0_i32_2355 v2466
  v2467.toNat
def k0_dev55 (d0 : Dev nD) : Nat :=
  let c0_i32_2488 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_2487 : BitVec 32 := 1#32
  let v2654 : BitVec 32 := Scalar.muli v234 c1_i32_2487
  let v2655 : BitVec 32 := Scalar.addi c0_i32_2488 v2654
  v2655.toNat
def k0_dev56 (d0 : Dev nD) : Nat :=
  let c0_i32_2510 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2509 : BitVec 32 := 1#32
  let v2665 : BitVec 32 := Scalar.muli v160 c1_i32_2509
  let v2666 : BitVec 32 := Scalar.addi c0_i32_2510 v2665
  v2666.toNat
def k0_dev57 (d0 : Dev nD) : Nat :=
  let c0_i32_2546 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2545 : BitVec 32 := 1#32
  let v2691 : BitVec 32 := Scalar.muli v160 c1_i32_2545
  let v2692 : BitVec 32 := Scalar.addi c0_i32_2546 v2691
  v2692.toNat
def k0_dev58 (d0 : Dev nD) : Nat :=
  let c0_i32_2568 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_2567 : BitVec 32 := 1#32
  let v2702 : BitVec 32 := Scalar.muli v234 c1_i32_2567
  let v2703 : BitVec 32 := Scalar.addi c0_i32_2568 v2702
  v2703.toNat
def k0_dev59 (d0 : Dev nD) : Nat :=
  let c0_i32_2604 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_2603 : BitVec 32 := 1#32
  let v2728 : BitVec 32 := Scalar.muli v234 c1_i32_2603
  let v2729 : BitVec 32 := Scalar.addi c0_i32_2604 v2728
  v2729.toNat
def k0_dev60 (d0 : Dev nD) : Nat :=
  let c0_i32_2626 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2625 : BitVec 32 := 1#32
  let v2739 : BitVec 32 := Scalar.muli v160 c1_i32_2625
  let v2740 : BitVec 32 := Scalar.addi c0_i32_2626 v2739
  v2740.toNat
def k0_dev61 (d0 : Dev nD) : Nat :=
  let c0_i32_2662 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2661 : BitVec 32 := 1#32
  let v2765 : BitVec 32 := Scalar.muli v160 c1_i32_2661
  let v2766 : BitVec 32 := Scalar.addi c0_i32_2662 v2765
  v2766.toNat
def k0_dev62 (d0 : Dev nD) : Nat :=
  let c0_i32_2684 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_2683 : BitVec 32 := 1#32
  let v2776 : BitVec 32 := Scalar.muli v234 c1_i32_2683
  let v2777 : BitVec 32 := Scalar.addi c0_i32_2684 v2776
  v2777.toNat
def k0_dev63 (d0 : Dev nD) : Nat :=
  let c0_i32_2816 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_2815 : BitVec 32 := 1#32
  let v2964 : BitVec 32 := Scalar.muli v234 c1_i32_2815
  let v2965 : BitVec 32 := Scalar.addi c0_i32_2816 v2964
  v2965.toNat
def k0_dev64 (d0 : Dev nD) : Nat :=
  let c0_i32_2838 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2837 : BitVec 32 := 1#32
  let v2975 : BitVec 32 := Scalar.muli v160 c1_i32_2837
  let v2976 : BitVec 32 := Scalar.addi c0_i32_2838 v2975
  v2976.toNat
def k0_dev65 (d0 : Dev nD) : Nat :=
  let c0_i32_2874 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2873 : BitVec 32 := 1#32
  let v3001 : BitVec 32 := Scalar.muli v160 c1_i32_2873
  let v3002 : BitVec 32 := Scalar.addi c0_i32_2874 v3001
  v3002.toNat
def k0_dev66 (d0 : Dev nD) : Nat :=
  let c0_i32_2896 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_2895 : BitVec 32 := 1#32
  let v3012 : BitVec 32 := Scalar.muli v234 c1_i32_2895
  let v3013 : BitVec 32 := Scalar.addi c0_i32_2896 v3012
  v3013.toNat
def k0_dev67 (d0 : Dev nD) : Nat :=
  let c0_i32_2932 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_2931 : BitVec 32 := 1#32
  let v3038 : BitVec 32 := Scalar.muli v234 c1_i32_2931
  let v3039 : BitVec 32 := Scalar.addi c0_i32_2932 v3038
  v3039.toNat
def k0_dev68 (d0 : Dev nD) : Nat :=
  let c0_i32_2954 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2953 : BitVec 32 := 1#32
  let v3049 : BitVec 32 := Scalar.muli v160 c1_i32_2953
  let v3050 : BitVec 32 := Scalar.addi c0_i32_2954 v3049
  v3050.toNat
def k0_dev69 (d0 : Dev nD) : Nat :=
  let c0_i32_2990 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_2989 : BitVec 32 := 1#32
  let v3075 : BitVec 32 := Scalar.muli v160 c1_i32_2989
  let v3076 : BitVec 32 := Scalar.addi c0_i32_2990 v3075
  v3076.toNat
def k0_dev70 (d0 : Dev nD) : Nat :=
  let c0_i32_3012 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3011 : BitVec 32 := 1#32
  let v3086 : BitVec 32 := Scalar.muli v234 c1_i32_3011
  let v3087 : BitVec 32 := Scalar.addi c0_i32_3012 v3086
  v3087.toNat
def k0_dev71 (d0 : Dev nD) : Nat :=
  let c0_i32_3144 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3143 : BitVec 32 := 1#32
  let v3274 : BitVec 32 := Scalar.muli v234 c1_i32_3143
  let v3275 : BitVec 32 := Scalar.addi c0_i32_3144 v3274
  v3275.toNat
def k0_dev72 (d0 : Dev nD) : Nat :=
  let c0_i32_3166 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_3165 : BitVec 32 := 1#32
  let v3285 : BitVec 32 := Scalar.muli v160 c1_i32_3165
  let v3286 : BitVec 32 := Scalar.addi c0_i32_3166 v3285
  v3286.toNat
def k0_dev73 (d0 : Dev nD) : Nat :=
  let c0_i32_3202 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_3201 : BitVec 32 := 1#32
  let v3311 : BitVec 32 := Scalar.muli v160 c1_i32_3201
  let v3312 : BitVec 32 := Scalar.addi c0_i32_3202 v3311
  v3312.toNat
def k0_dev74 (d0 : Dev nD) : Nat :=
  let c0_i32_3224 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3223 : BitVec 32 := 1#32
  let v3322 : BitVec 32 := Scalar.muli v234 c1_i32_3223
  let v3323 : BitVec 32 := Scalar.addi c0_i32_3224 v3322
  v3323.toNat
def k0_dev75 (d0 : Dev nD) : Nat :=
  let c0_i32_3260 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3259 : BitVec 32 := 1#32
  let v3348 : BitVec 32 := Scalar.muli v234 c1_i32_3259
  let v3349 : BitVec 32 := Scalar.addi c0_i32_3260 v3348
  v3349.toNat
def k0_dev76 (d0 : Dev nD) : Nat :=
  let c0_i32_3282 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_3281 : BitVec 32 := 1#32
  let v3359 : BitVec 32 := Scalar.muli v160 c1_i32_3281
  let v3360 : BitVec 32 := Scalar.addi c0_i32_3282 v3359
  v3360.toNat
def k0_dev77 (d0 : Dev nD) : Nat :=
  let c0_i32_3318 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_3317 : BitVec 32 := 1#32
  let v3385 : BitVec 32 := Scalar.muli v160 c1_i32_3317
  let v3386 : BitVec 32 := Scalar.addi c0_i32_3318 v3385
  v3386.toNat
def k0_dev78 (d0 : Dev nD) : Nat :=
  let c0_i32_3340 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3339 : BitVec 32 := 1#32
  let v3396 : BitVec 32 := Scalar.muli v234 c1_i32_3339
  let v3397 : BitVec 32 := Scalar.addi c0_i32_3340 v3396
  v3397.toNat
def k0_dev79 (d0 : Dev nD) : Nat :=
  let c0_i32_3472 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3471 : BitVec 32 := 1#32
  let v3584 : BitVec 32 := Scalar.muli v234 c1_i32_3471
  let v3585 : BitVec 32 := Scalar.addi c0_i32_3472 v3584
  v3585.toNat
def k0_dev80 (d0 : Dev nD) : Nat :=
  let c0_i32_3494 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_3493 : BitVec 32 := 1#32
  let v3595 : BitVec 32 := Scalar.muli v160 c1_i32_3493
  let v3596 : BitVec 32 := Scalar.addi c0_i32_3494 v3595
  v3596.toNat
def k0_dev81 (d0 : Dev nD) : Nat :=
  let c0_i32_3530 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_3529 : BitVec 32 := 1#32
  let v3621 : BitVec 32 := Scalar.muli v160 c1_i32_3529
  let v3622 : BitVec 32 := Scalar.addi c0_i32_3530 v3621
  v3622.toNat
def k0_dev82 (d0 : Dev nD) : Nat :=
  let c0_i32_3552 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3551 : BitVec 32 := 1#32
  let v3632 : BitVec 32 := Scalar.muli v234 c1_i32_3551
  let v3633 : BitVec 32 := Scalar.addi c0_i32_3552 v3632
  v3633.toNat
def k0_dev83 (d0 : Dev nD) : Nat :=
  let c0_i32_3588 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3587 : BitVec 32 := 1#32
  let v3658 : BitVec 32 := Scalar.muli v234 c1_i32_3587
  let v3659 : BitVec 32 := Scalar.addi c0_i32_3588 v3658
  v3659.toNat
def k0_dev84 (d0 : Dev nD) : Nat :=
  let c0_i32_3610 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_3609 : BitVec 32 := 1#32
  let v3669 : BitVec 32 := Scalar.muli v160 c1_i32_3609
  let v3670 : BitVec 32 := Scalar.addi c0_i32_3610 v3669
  v3670.toNat
def k0_dev85 (d0 : Dev nD) : Nat :=
  let c0_i32_3646 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_3645 : BitVec 32 := 1#32
  let v3695 : BitVec 32 := Scalar.muli v160 c1_i32_3645
  let v3696 : BitVec 32 := Scalar.addi c0_i32_3646 v3695
  v3696.toNat
def k0_dev86 (d0 : Dev nD) : Nat :=
  let c0_i32_3668 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3667 : BitVec 32 := 1#32
  let v3706 : BitVec 32 := Scalar.muli v234 c1_i32_3667
  let v3707 : BitVec 32 := Scalar.addi c0_i32_3668 v3706
  v3707.toNat
def k0_dev87 (d0 : Dev nD) : Nat :=
  let c0_i32_3800 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3799 : BitVec 32 := 1#32
  let v3894 : BitVec 32 := Scalar.muli v234 c1_i32_3799
  let v3895 : BitVec 32 := Scalar.addi c0_i32_3800 v3894
  v3895.toNat
def k0_dev88 (d0 : Dev nD) : Nat :=
  let c0_i32_3822 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_3821 : BitVec 32 := 1#32
  let v3905 : BitVec 32 := Scalar.muli v160 c1_i32_3821
  let v3906 : BitVec 32 := Scalar.addi c0_i32_3822 v3905
  v3906.toNat
def k0_dev89 (d0 : Dev nD) : Nat :=
  let c0_i32_3858 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_3857 : BitVec 32 := 1#32
  let v3931 : BitVec 32 := Scalar.muli v160 c1_i32_3857
  let v3932 : BitVec 32 := Scalar.addi c0_i32_3858 v3931
  v3932.toNat
def k0_dev90 (d0 : Dev nD) : Nat :=
  let c0_i32_3880 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3879 : BitVec 32 := 1#32
  let v3942 : BitVec 32 := Scalar.muli v234 c1_i32_3879
  let v3943 : BitVec 32 := Scalar.addi c0_i32_3880 v3942
  v3943.toNat
def k0_dev91 (d0 : Dev nD) : Nat :=
  let c0_i32_3916 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3915 : BitVec 32 := 1#32
  let v3968 : BitVec 32 := Scalar.muli v234 c1_i32_3915
  let v3969 : BitVec 32 := Scalar.addi c0_i32_3916 v3968
  v3969.toNat
def k0_dev92 (d0 : Dev nD) : Nat :=
  let c0_i32_3938 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_3937 : BitVec 32 := 1#32
  let v3979 : BitVec 32 := Scalar.muli v160 c1_i32_3937
  let v3980 : BitVec 32 := Scalar.addi c0_i32_3938 v3979
  v3980.toNat
def k0_dev93 (d0 : Dev nD) : Nat :=
  let c0_i32_3974 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_3973 : BitVec 32 := 1#32
  let v4005 : BitVec 32 := Scalar.muli v160 c1_i32_3973
  let v4006 : BitVec 32 := Scalar.addi c0_i32_3974 v4005
  v4006.toNat
def k0_dev94 (d0 : Dev nD) : Nat :=
  let c0_i32_3996 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_3995 : BitVec 32 := 1#32
  let v4016 : BitVec 32 := Scalar.muli v234 c1_i32_3995
  let v4017 : BitVec 32 := Scalar.addi c0_i32_3996 v4016
  v4017.toNat
def k0_dev95 (d0 : Dev nD) : Nat :=
  let c0_i32_4128 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_4127 : BitVec 32 := 1#32
  let v4204 : BitVec 32 := Scalar.muli v234 c1_i32_4127
  let v4205 : BitVec 32 := Scalar.addi c0_i32_4128 v4204
  v4205.toNat
def k0_dev96 (d0 : Dev nD) : Nat :=
  let c0_i32_4150 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_4149 : BitVec 32 := 1#32
  let v4215 : BitVec 32 := Scalar.muli v160 c1_i32_4149
  let v4216 : BitVec 32 := Scalar.addi c0_i32_4150 v4215
  v4216.toNat
def k0_dev97 (d0 : Dev nD) : Nat :=
  let c0_i32_4186 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_4185 : BitVec 32 := 1#32
  let v4241 : BitVec 32 := Scalar.muli v160 c1_i32_4185
  let v4242 : BitVec 32 := Scalar.addi c0_i32_4186 v4241
  v4242.toNat
def k0_dev98 (d0 : Dev nD) : Nat :=
  let c0_i32_4208 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_4207 : BitVec 32 := 1#32
  let v4252 : BitVec 32 := Scalar.muli v234 c1_i32_4207
  let v4253 : BitVec 32 := Scalar.addi c0_i32_4208 v4252
  v4253.toNat
def k0_dev99 (d0 : Dev nD) : Nat :=
  let c0_i32_4244 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_4243 : BitVec 32 := 1#32
  let v4278 : BitVec 32 := Scalar.muli v234 c1_i32_4243
  let v4279 : BitVec 32 := Scalar.addi c0_i32_4244 v4278
  v4279.toNat
def k0_dev100 (d0 : Dev nD) : Nat :=
  let c0_i32_4266 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_4265 : BitVec 32 := 1#32
  let v4289 : BitVec 32 := Scalar.muli v160 c1_i32_4265
  let v4290 : BitVec 32 := Scalar.addi c0_i32_4266 v4289
  v4290.toNat
def k0_dev101 (d0 : Dev nD) : Nat :=
  let c0_i32_4302 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_4301 : BitVec 32 := 1#32
  let v4315 : BitVec 32 := Scalar.muli v160 c1_i32_4301
  let v4316 : BitVec 32 := Scalar.addi c0_i32_4302 v4315
  v4316.toNat
def k0_dev102 (d0 : Dev nD) : Nat :=
  let c0_i32_4324 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_4323 : BitVec 32 := 1#32
  let v4326 : BitVec 32 := Scalar.muli v234 c1_i32_4323
  let v4327 : BitVec 32 := Scalar.addi c0_i32_4324 v4326
  v4327.toNat
def k0_dev103 (d0 : Dev nD) : Nat :=
  let c0_i32_4456 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_4455 : BitVec 32 := 1#32
  let v4514 : BitVec 32 := Scalar.muli v234 c1_i32_4455
  let v4515 : BitVec 32 := Scalar.addi c0_i32_4456 v4514
  v4515.toNat
def k0_dev104 (d0 : Dev nD) : Nat :=
  let c0_i32_4478 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_4477 : BitVec 32 := 1#32
  let v4525 : BitVec 32 := Scalar.muli v160 c1_i32_4477
  let v4526 : BitVec 32 := Scalar.addi c0_i32_4478 v4525
  v4526.toNat
def k0_dev105 (d0 : Dev nD) : Nat :=
  let c0_i32_4514 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_4513 : BitVec 32 := 1#32
  let v4551 : BitVec 32 := Scalar.muli v160 c1_i32_4513
  let v4552 : BitVec 32 := Scalar.addi c0_i32_4514 v4551
  v4552.toNat
def k0_dev106 (d0 : Dev nD) : Nat :=
  let c0_i32_4536 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_4535 : BitVec 32 := 1#32
  let v4562 : BitVec 32 := Scalar.muli v234 c1_i32_4535
  let v4563 : BitVec 32 := Scalar.addi c0_i32_4536 v4562
  v4563.toNat
def k0_dev107 (d0 : Dev nD) : Nat :=
  let c0_i32_4572 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_4571 : BitVec 32 := 1#32
  let v4588 : BitVec 32 := Scalar.muli v234 c1_i32_4571
  let v4589 : BitVec 32 := Scalar.addi c0_i32_4572 v4588
  v4589.toNat
def k0_dev108 (d0 : Dev nD) : Nat :=
  let c0_i32_4594 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_4593 : BitVec 32 := 1#32
  let v4599 : BitVec 32 := Scalar.muli v160 c1_i32_4593
  let v4600 : BitVec 32 := Scalar.addi c0_i32_4594 v4599
  v4600.toNat
def k0_dev109 (d0 : Dev nD) : Nat :=
  let c0_i32_4630 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_4629 : BitVec 32 := 1#32
  let v4625 : BitVec 32 := Scalar.muli v160 c1_i32_4629
  let v4626 : BitVec 32 := Scalar.addi c0_i32_4630 v4625
  v4626.toNat
def k0_dev110 (d0 : Dev nD) : Nat :=
  let c0_i32_4652 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_4651 : BitVec 32 := 1#32
  let v4636 : BitVec 32 := Scalar.muli v234 c1_i32_4651
  let v4637 : BitVec 32 := Scalar.addi c0_i32_4652 v4636
  v4637.toNat
def k0_dev111 (d0 : Dev nD) : Nat :=
  let c0_i32_4784 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_4783 : BitVec 32 := 1#32
  let v4824 : BitVec 32 := Scalar.muli v234 c1_i32_4783
  let v4825 : BitVec 32 := Scalar.addi c0_i32_4784 v4824
  v4825.toNat
def k0_dev112 (d0 : Dev nD) : Nat :=
  let c0_i32_4806 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_4805 : BitVec 32 := 1#32
  let v4835 : BitVec 32 := Scalar.muli v160 c1_i32_4805
  let v4836 : BitVec 32 := Scalar.addi c0_i32_4806 v4835
  v4836.toNat
def k0_dev113 (d0 : Dev nD) : Nat :=
  let c0_i32_4842 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_4841 : BitVec 32 := 1#32
  let v4861 : BitVec 32 := Scalar.muli v160 c1_i32_4841
  let v4862 : BitVec 32 := Scalar.addi c0_i32_4842 v4861
  v4862.toNat
def k0_dev114 (d0 : Dev nD) : Nat :=
  let c0_i32_4864 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_4863 : BitVec 32 := 1#32
  let v4872 : BitVec 32 := Scalar.muli v234 c1_i32_4863
  let v4873 : BitVec 32 := Scalar.addi c0_i32_4864 v4872
  v4873.toNat
def k0_dev115 (d0 : Dev nD) : Nat :=
  let c0_i32_4900 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_4899 : BitVec 32 := 1#32
  let v4898 : BitVec 32 := Scalar.muli v234 c1_i32_4899
  let v4899 : BitVec 32 := Scalar.addi c0_i32_4900 v4898
  v4899.toNat
def k0_dev116 (d0 : Dev nD) : Nat :=
  let c0_i32_4922 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_4921 : BitVec 32 := 1#32
  let v4909 : BitVec 32 := Scalar.muli v160 c1_i32_4921
  let v4910 : BitVec 32 := Scalar.addi c0_i32_4922 v4909
  v4910.toNat
def k0_dev117 (d0 : Dev nD) : Nat :=
  let c0_i32_4958 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_4957 : BitVec 32 := 1#32
  let v4935 : BitVec 32 := Scalar.muli v160 c1_i32_4957
  let v4936 : BitVec 32 := Scalar.addi c0_i32_4958 v4935
  v4936.toNat
def k0_dev118 (d0 : Dev nD) : Nat :=
  let c0_i32_4980 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_4979 : BitVec 32 := 1#32
  let v4946 : BitVec 32 := Scalar.muli v234 c1_i32_4979
  let v4947 : BitVec 32 := Scalar.addi c0_i32_4980 v4946
  v4947.toNat
def k0_dev119 (d0 : Dev nD) : Nat :=
  let c0_i32_5113 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_5112 : BitVec 32 := 1#32
  let v5134 : BitVec 32 := Scalar.muli v234 c1_i32_5112
  let v5135 : BitVec 32 := Scalar.addi c0_i32_5113 v5134
  v5135.toNat
def k0_dev120 (d0 : Dev nD) : Nat :=
  let c0_i32_5135 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_5134 : BitVec 32 := 1#32
  let v5145 : BitVec 32 := Scalar.muli v160 c1_i32_5134
  let v5146 : BitVec 32 := Scalar.addi c0_i32_5135 v5145
  v5146.toNat
def k0_dev121 (d0 : Dev nD) : Nat :=
  let c0_i32_5171 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_5170 : BitVec 32 := 1#32
  let v5171 : BitVec 32 := Scalar.muli v160 c1_i32_5170
  let v5172 : BitVec 32 := Scalar.addi c0_i32_5171 v5171
  v5172.toNat
def k0_dev122 (d0 : Dev nD) : Nat :=
  let c0_i32_5193 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_5192 : BitVec 32 := 1#32
  let v5182 : BitVec 32 := Scalar.muli v234 c1_i32_5192
  let v5183 : BitVec 32 := Scalar.addi c0_i32_5193 v5182
  v5183.toNat
def k0_dev123 (d0 : Dev nD) : Nat :=
  let c0_i32_5229 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_5228 : BitVec 32 := 1#32
  let v5208 : BitVec 32 := Scalar.muli v234 c1_i32_5228
  let v5209 : BitVec 32 := Scalar.addi c0_i32_5229 v5208
  v5209.toNat
def k0_dev124 (d0 : Dev nD) : Nat :=
  let c0_i32_5251 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_5250 : BitVec 32 := 1#32
  let v5219 : BitVec 32 := Scalar.muli v160 c1_i32_5250
  let v5220 : BitVec 32 := Scalar.addi c0_i32_5251 v5219
  v5220.toNat
def k0_dev125 (d0 : Dev nD) : Nat :=
  let c0_i32_5287 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_5286 : BitVec 32 := 1#32
  let v5245 : BitVec 32 := Scalar.muli v160 c1_i32_5286
  let v5246 : BitVec 32 := Scalar.addi c0_i32_5287 v5245
  v5246.toNat
def k0_dev126 (d0 : Dev nD) : Nat :=
  let c0_i32_5309 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_5308 : BitVec 32 := 1#32
  let v5256 : BitVec 32 := Scalar.muli v234 c1_i32_5308
  let v5257 : BitVec 32 := Scalar.addi c0_i32_5309 v5256
  v5257.toNat
def k0_dev127 (d0 : Dev nD) : Nat :=
  let c0_i32_5441 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_5440 : BitVec 32 := 1#32
  let v5444 : BitVec 32 := Scalar.muli v234 c1_i32_5440
  let v5445 : BitVec 32 := Scalar.addi c0_i32_5441 v5444
  v5445.toNat
def k0_dev128 (d0 : Dev nD) : Nat :=
  let c0_i32_5463 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_5462 : BitVec 32 := 1#32
  let v5455 : BitVec 32 := Scalar.muli v160 c1_i32_5462
  let v5456 : BitVec 32 := Scalar.addi c0_i32_5463 v5455
  v5456.toNat
def k0_dev129 (d0 : Dev nD) : Nat :=
  let c0_i32_5499 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_5498 : BitVec 32 := 1#32
  let v5481 : BitVec 32 := Scalar.muli v160 c1_i32_5498
  let v5482 : BitVec 32 := Scalar.addi c0_i32_5499 v5481
  v5482.toNat
def k0_dev130 (d0 : Dev nD) : Nat :=
  let c0_i32_5521 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_5520 : BitVec 32 := 1#32
  let v5492 : BitVec 32 := Scalar.muli v234 c1_i32_5520
  let v5493 : BitVec 32 := Scalar.addi c0_i32_5521 v5492
  v5493.toNat
def k0_dev131 (d0 : Dev nD) : Nat :=
  let c0_i32_5557 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_5556 : BitVec 32 := 1#32
  let v5518 : BitVec 32 := Scalar.muli v234 c1_i32_5556
  let v5519 : BitVec 32 := Scalar.addi c0_i32_5557 v5518
  v5519.toNat
def k0_dev132 (d0 : Dev nD) : Nat :=
  let c0_i32_5579 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_5578 : BitVec 32 := 1#32
  let v5529 : BitVec 32 := Scalar.muli v160 c1_i32_5578
  let v5530 : BitVec 32 := Scalar.addi c0_i32_5579 v5529
  v5530.toNat
def k0_dev133 (d0 : Dev nD) : Nat :=
  let c0_i32_5615 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_5614 : BitVec 32 := 1#32
  let v5555 : BitVec 32 := Scalar.muli v160 c1_i32_5614
  let v5556 : BitVec 32 := Scalar.addi c0_i32_5615 v5555
  v5556.toNat
def k0_dev134 (d0 : Dev nD) : Nat :=
  let c0_i32_5637 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_5636 : BitVec 32 := 1#32
  let v5566 : BitVec 32 := Scalar.muli v234 c1_i32_5636
  let v5567 : BitVec 32 := Scalar.addi c0_i32_5637 v5566
  v5567.toNat
def k0_dev135 (d0 : Dev nD) : Nat :=
  let c0_i32_5769 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_5768 : BitVec 32 := 1#32
  let v5754 : BitVec 32 := Scalar.muli v234 c1_i32_5768
  let v5755 : BitVec 32 := Scalar.addi c0_i32_5769 v5754
  v5755.toNat
def k0_dev136 (d0 : Dev nD) : Nat :=
  let c0_i32_5791 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_5790 : BitVec 32 := 1#32
  let v5765 : BitVec 32 := Scalar.muli v160 c1_i32_5790
  let v5766 : BitVec 32 := Scalar.addi c0_i32_5791 v5765
  v5766.toNat
def k0_dev137 (d0 : Dev nD) : Nat :=
  let c0_i32_5827 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_5826 : BitVec 32 := 1#32
  let v5791 : BitVec 32 := Scalar.muli v160 c1_i32_5826
  let v5792 : BitVec 32 := Scalar.addi c0_i32_5827 v5791
  v5792.toNat
def k0_dev138 (d0 : Dev nD) : Nat :=
  let c0_i32_5849 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_5848 : BitVec 32 := 1#32
  let v5802 : BitVec 32 := Scalar.muli v234 c1_i32_5848
  let v5803 : BitVec 32 := Scalar.addi c0_i32_5849 v5802
  v5803.toNat
def k0_dev139 (d0 : Dev nD) : Nat :=
  let c0_i32_5885 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_5884 : BitVec 32 := 1#32
  let v5828 : BitVec 32 := Scalar.muli v234 c1_i32_5884
  let v5829 : BitVec 32 := Scalar.addi c0_i32_5885 v5828
  v5829.toNat
def k0_dev140 (d0 : Dev nD) : Nat :=
  let c0_i32_5907 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_5906 : BitVec 32 := 1#32
  let v5839 : BitVec 32 := Scalar.muli v160 c1_i32_5906
  let v5840 : BitVec 32 := Scalar.addi c0_i32_5907 v5839
  v5840.toNat
def k0_dev141 (d0 : Dev nD) : Nat :=
  let c0_i32_5943 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_5942 : BitVec 32 := 1#32
  let v5865 : BitVec 32 := Scalar.muli v160 c1_i32_5942
  let v5866 : BitVec 32 := Scalar.addi c0_i32_5943 v5865
  v5866.toNat
def k0_dev142 (d0 : Dev nD) : Nat :=
  let c0_i32_5965 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_5964 : BitVec 32 := 1#32
  let v5876 : BitVec 32 := Scalar.muli v234 c1_i32_5964
  let v5877 : BitVec 32 := Scalar.addi c0_i32_5965 v5876
  v5877.toNat
def k0_dev143 (d0 : Dev nD) : Nat :=
  let c0_i32_6097 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_6096 : BitVec 32 := 1#32
  let v6064 : BitVec 32 := Scalar.muli v234 c1_i32_6096
  let v6065 : BitVec 32 := Scalar.addi c0_i32_6097 v6064
  v6065.toNat
def k0_dev144 (d0 : Dev nD) : Nat :=
  let c0_i32_6119 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_6118 : BitVec 32 := 1#32
  let v6075 : BitVec 32 := Scalar.muli v160 c1_i32_6118
  let v6076 : BitVec 32 := Scalar.addi c0_i32_6119 v6075
  v6076.toNat
def k0_dev145 (d0 : Dev nD) : Nat :=
  let c0_i32_6155 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_6154 : BitVec 32 := 1#32
  let v6101 : BitVec 32 := Scalar.muli v160 c1_i32_6154
  let v6102 : BitVec 32 := Scalar.addi c0_i32_6155 v6101
  v6102.toNat
def k0_dev146 (d0 : Dev nD) : Nat :=
  let c0_i32_6177 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_6176 : BitVec 32 := 1#32
  let v6112 : BitVec 32 := Scalar.muli v234 c1_i32_6176
  let v6113 : BitVec 32 := Scalar.addi c0_i32_6177 v6112
  v6113.toNat
def k0_dev147 (d0 : Dev nD) : Nat :=
  let c0_i32_6213 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_6212 : BitVec 32 := 1#32
  let v6138 : BitVec 32 := Scalar.muli v234 c1_i32_6212
  let v6139 : BitVec 32 := Scalar.addi c0_i32_6213 v6138
  v6139.toNat
def k0_dev148 (d0 : Dev nD) : Nat :=
  let c0_i32_6235 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_6234 : BitVec 32 := 1#32
  let v6149 : BitVec 32 := Scalar.muli v160 c1_i32_6234
  let v6150 : BitVec 32 := Scalar.addi c0_i32_6235 v6149
  v6150.toNat
def k0_dev149 (d0 : Dev nD) : Nat :=
  let c0_i32_6271 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_6270 : BitVec 32 := 1#32
  let v6175 : BitVec 32 := Scalar.muli v160 c1_i32_6270
  let v6176 : BitVec 32 := Scalar.addi c0_i32_6271 v6175
  v6176.toNat
def k0_dev150 (d0 : Dev nD) : Nat :=
  let c0_i32_6293 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_6292 : BitVec 32 := 1#32
  let v6186 : BitVec 32 := Scalar.muli v234 c1_i32_6292
  let v6187 : BitVec 32 := Scalar.addi c0_i32_6293 v6186
  v6187.toNat
def k0_dev151 (d0 : Dev nD) : Nat :=
  let c0_i32_6425 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_6424 : BitVec 32 := 1#32
  let v6374 : BitVec 32 := Scalar.muli v234 c1_i32_6424
  let v6375 : BitVec 32 := Scalar.addi c0_i32_6425 v6374
  v6375.toNat
def k0_dev152 (d0 : Dev nD) : Nat :=
  let c0_i32_6447 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_6446 : BitVec 32 := 1#32
  let v6385 : BitVec 32 := Scalar.muli v160 c1_i32_6446
  let v6386 : BitVec 32 := Scalar.addi c0_i32_6447 v6385
  v6386.toNat
def k0_dev153 (d0 : Dev nD) : Nat :=
  let c0_i32_6483 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_6482 : BitVec 32 := 1#32
  let v6411 : BitVec 32 := Scalar.muli v160 c1_i32_6482
  let v6412 : BitVec 32 := Scalar.addi c0_i32_6483 v6411
  v6412.toNat
def k0_dev154 (d0 : Dev nD) : Nat :=
  let c0_i32_6505 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_6504 : BitVec 32 := 1#32
  let v6422 : BitVec 32 := Scalar.muli v234 c1_i32_6504
  let v6423 : BitVec 32 := Scalar.addi c0_i32_6505 v6422
  v6423.toNat
def k0_dev155 (d0 : Dev nD) : Nat :=
  let c0_i32_6541 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_6540 : BitVec 32 := 1#32
  let v6448 : BitVec 32 := Scalar.muli v234 c1_i32_6540
  let v6449 : BitVec 32 := Scalar.addi c0_i32_6541 v6448
  v6449.toNat
def k0_dev156 (d0 : Dev nD) : Nat :=
  let c0_i32_6563 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_6562 : BitVec 32 := 1#32
  let v6459 : BitVec 32 := Scalar.muli v160 c1_i32_6562
  let v6460 : BitVec 32 := Scalar.addi c0_i32_6563 v6459
  v6460.toNat
def k0_dev157 (d0 : Dev nD) : Nat :=
  let c0_i32_6599 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_6598 : BitVec 32 := 1#32
  let v6485 : BitVec 32 := Scalar.muli v160 c1_i32_6598
  let v6486 : BitVec 32 := Scalar.addi c0_i32_6599 v6485
  v6486.toNat
def k0_dev158 (d0 : Dev nD) : Nat :=
  let c0_i32_6621 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_6620 : BitVec 32 := 1#32
  let v6496 : BitVec 32 := Scalar.muli v234 c1_i32_6620
  let v6497 : BitVec 32 := Scalar.addi c0_i32_6621 v6496
  v6497.toNat
def k0_dev159 (d0 : Dev nD) : Nat :=
  let c0_i32_6753 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_6752 : BitVec 32 := 1#32
  let v6684 : BitVec 32 := Scalar.muli v234 c1_i32_6752
  let v6685 : BitVec 32 := Scalar.addi c0_i32_6753 v6684
  v6685.toNat
def k0_dev160 (d0 : Dev nD) : Nat :=
  let c0_i32_6775 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_6774 : BitVec 32 := 1#32
  let v6695 : BitVec 32 := Scalar.muli v160 c1_i32_6774
  let v6696 : BitVec 32 := Scalar.addi c0_i32_6775 v6695
  v6696.toNat
def k0_dev161 (d0 : Dev nD) : Nat :=
  let c0_i32_6811 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_6810 : BitVec 32 := 1#32
  let v6721 : BitVec 32 := Scalar.muli v160 c1_i32_6810
  let v6722 : BitVec 32 := Scalar.addi c0_i32_6811 v6721
  v6722.toNat
def k0_dev162 (d0 : Dev nD) : Nat :=
  let c0_i32_6833 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_6832 : BitVec 32 := 1#32
  let v6732 : BitVec 32 := Scalar.muli v234 c1_i32_6832
  let v6733 : BitVec 32 := Scalar.addi c0_i32_6833 v6732
  v6733.toNat
def k0_dev163 (d0 : Dev nD) : Nat :=
  let c0_i32_6869 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_6868 : BitVec 32 := 1#32
  let v6758 : BitVec 32 := Scalar.muli v234 c1_i32_6868
  let v6759 : BitVec 32 := Scalar.addi c0_i32_6869 v6758
  v6759.toNat
def k0_dev164 (d0 : Dev nD) : Nat :=
  let c0_i32_6891 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_6890 : BitVec 32 := 1#32
  let v6769 : BitVec 32 := Scalar.muli v160 c1_i32_6890
  let v6770 : BitVec 32 := Scalar.addi c0_i32_6891 v6769
  v6770.toNat
def k0_dev165 (d0 : Dev nD) : Nat :=
  let c0_i32_6927 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_6926 : BitVec 32 := 1#32
  let v6795 : BitVec 32 := Scalar.muli v160 c1_i32_6926
  let v6796 : BitVec 32 := Scalar.addi c0_i32_6927 v6795
  v6796.toNat
def k0_dev166 (d0 : Dev nD) : Nat :=
  let c0_i32_6949 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_6948 : BitVec 32 := 1#32
  let v6806 : BitVec 32 := Scalar.muli v234 c1_i32_6948
  let v6807 : BitVec 32 := Scalar.addi c0_i32_6949 v6806
  v6807.toNat
def k0_dev167 (d0 : Dev nD) : Nat :=
  let c0_i32_7081 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_7080 : BitVec 32 := 1#32
  let v6994 : BitVec 32 := Scalar.muli v234 c1_i32_7080
  let v6995 : BitVec 32 := Scalar.addi c0_i32_7081 v6994
  v6995.toNat
def k0_dev168 (d0 : Dev nD) : Nat :=
  let c0_i32_7103 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_7102 : BitVec 32 := 1#32
  let v7005 : BitVec 32 := Scalar.muli v160 c1_i32_7102
  let v7006 : BitVec 32 := Scalar.addi c0_i32_7103 v7005
  v7006.toNat

variable {F : FTy → Type} [FloatOps F]

def k0_dev169 (d0 : Dev nD) : Nat :=
  let c0_i32_7139 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_7138 : BitVec 32 := 1#32
  let v7031 : BitVec 32 := Scalar.muli v160 c1_i32_7138
  let v7032 : BitVec 32 := Scalar.addi c0_i32_7139 v7031
  v7032.toNat
def k0_dev170 (d0 : Dev nD) : Nat :=
  let c0_i32_7161 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_7160 : BitVec 32 := 1#32
  let v7042 : BitVec 32 := Scalar.muli v234 c1_i32_7160
  let v7043 : BitVec 32 := Scalar.addi c0_i32_7161 v7042
  v7043.toNat
def k0_dev171 (d0 : Dev nD) : Nat :=
  let c0_i32_7197 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_7196 : BitVec 32 := 1#32
  let v7068 : BitVec 32 := Scalar.muli v234 c1_i32_7196
  let v7069 : BitVec 32 := Scalar.addi c0_i32_7197 v7068
  v7069.toNat
def k0_dev172 (d0 : Dev nD) : Nat :=
  let c0_i32_7219 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_7218 : BitVec 32 := 1#32
  let v7079 : BitVec 32 := Scalar.muli v160 c1_i32_7218
  let v7080 : BitVec 32 := Scalar.addi c0_i32_7219 v7079
  v7080.toNat
def k0_dev173 (d0 : Dev nD) : Nat :=
  let c0_i32_7255 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_7254 : BitVec 32 := 1#32
  let v7105 : BitVec 32 := Scalar.muli v160 c1_i32_7254
  let v7106 : BitVec 32 := Scalar.addi c0_i32_7255 v7105
  v7106.toNat
def k0_dev174 (d0 : Dev nD) : Nat :=
  let c0_i32_7277 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_7276 : BitVec 32 := 1#32
  let v7116 : BitVec 32 := Scalar.muli v234 c1_i32_7276
  let v7117 : BitVec 32 := Scalar.addi c0_i32_7277 v7116
  v7117.toNat
def k0_dev175 (d0 : Dev nD) : Nat :=
  let c0_i32_7409 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_7408 : BitVec 32 := 1#32
  let v7304 : BitVec 32 := Scalar.muli v234 c1_i32_7408
  let v7305 : BitVec 32 := Scalar.addi c0_i32_7409 v7304
  v7305.toNat
def k0_dev176 (d0 : Dev nD) : Nat :=
  let c0_i32_7431 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_7430 : BitVec 32 := 1#32
  let v7315 : BitVec 32 := Scalar.muli v160 c1_i32_7430
  let v7316 : BitVec 32 := Scalar.addi c0_i32_7431 v7315
  v7316.toNat
def k0_dev177 (d0 : Dev nD) : Nat :=
  let c0_i32_7467 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_7466 : BitVec 32 := 1#32
  let v7341 : BitVec 32 := Scalar.muli v160 c1_i32_7466
  let v7342 : BitVec 32 := Scalar.addi c0_i32_7467 v7341
  v7342.toNat
def k0_dev178 (d0 : Dev nD) : Nat :=
  let c0_i32_7489 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_7488 : BitVec 32 := 1#32
  let v7352 : BitVec 32 := Scalar.muli v234 c1_i32_7488
  let v7353 : BitVec 32 := Scalar.addi c0_i32_7489 v7352
  v7353.toNat
def k0_dev179 (d0 : Dev nD) : Nat :=
  let c0_i32_7525 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_7524 : BitVec 32 := 1#32
  let v7378 : BitVec 32 := Scalar.muli v234 c1_i32_7524
  let v7379 : BitVec 32 := Scalar.addi c0_i32_7525 v7378
  v7379.toNat
def k0_dev180 (d0 : Dev nD) : Nat :=
  let c0_i32_7547 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_7546 : BitVec 32 := 1#32
  let v7389 : BitVec 32 := Scalar.muli v160 c1_i32_7546
  let v7390 : BitVec 32 := Scalar.addi c0_i32_7547 v7389
  v7390.toNat
def k0_dev181 (d0 : Dev nD) : Nat :=
  let c0_i32_7583 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_7582 : BitVec 32 := 1#32
  let v7415 : BitVec 32 := Scalar.muli v160 c1_i32_7582
  let v7416 : BitVec 32 := Scalar.addi c0_i32_7583 v7415
  v7416.toNat
def k0_dev182 (d0 : Dev nD) : Nat :=
  let c0_i32_7605 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_7604 : BitVec 32 := 1#32
  let v7426 : BitVec 32 := Scalar.muli v234 c1_i32_7604
  let v7427 : BitVec 32 := Scalar.addi c0_i32_7605 v7426
  v7427.toNat
def k0_dev183 (d0 : Dev nD) : Nat :=
  let c0_i32_7737 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_7736 : BitVec 32 := 1#32
  let v7614 : BitVec 32 := Scalar.muli v234 c1_i32_7736
  let v7615 : BitVec 32 := Scalar.addi c0_i32_7737 v7614
  v7615.toNat
def k0_dev184 (d0 : Dev nD) : Nat :=
  let c0_i32_7759 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_7758 : BitVec 32 := 1#32
  let v7625 : BitVec 32 := Scalar.muli v160 c1_i32_7758
  let v7626 : BitVec 32 := Scalar.addi c0_i32_7759 v7625
  v7626.toNat
def k0_dev185 (d0 : Dev nD) : Nat :=
  let c0_i32_7795 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_7794 : BitVec 32 := 1#32
  let v7651 : BitVec 32 := Scalar.muli v160 c1_i32_7794
  let v7652 : BitVec 32 := Scalar.addi c0_i32_7795 v7651
  v7652.toNat
def k0_dev186 (d0 : Dev nD) : Nat :=
  let c0_i32_7817 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_7816 : BitVec 32 := 1#32
  let v7662 : BitVec 32 := Scalar.muli v234 c1_i32_7816
  let v7663 : BitVec 32 := Scalar.addi c0_i32_7817 v7662
  v7663.toNat
def k0_dev187 (d0 : Dev nD) : Nat :=
  let c0_i32_7853 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_7852 : BitVec 32 := 1#32
  let v7688 : BitVec 32 := Scalar.muli v234 c1_i32_7852
  let v7689 : BitVec 32 := Scalar.addi c0_i32_7853 v7688
  v7689.toNat
def k0_dev188 (d0 : Dev nD) : Nat :=
  let c0_i32_7875 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_7874 : BitVec 32 := 1#32
  let v7699 : BitVec 32 := Scalar.muli v160 c1_i32_7874
  let v7700 : BitVec 32 := Scalar.addi c0_i32_7875 v7699
  v7700.toNat
def k0_dev189 (d0 : Dev nD) : Nat :=
  let c0_i32_7911 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_7910 : BitVec 32 := 1#32
  let v7725 : BitVec 32 := Scalar.muli v160 c1_i32_7910
  let v7726 : BitVec 32 := Scalar.addi c0_i32_7911 v7725
  v7726.toNat
def k0_dev190 (d0 : Dev nD) : Nat :=
  let c0_i32_7933 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_7932 : BitVec 32 := 1#32
  let v7736 : BitVec 32 := Scalar.muli v234 c1_i32_7932
  let v7737 : BitVec 32 := Scalar.addi c0_i32_7933 v7736
  v7737.toNat
def k0_dev191 (d0 : Dev nD) : Nat :=
  let c0_i32_8065 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_8064 : BitVec 32 := 1#32
  let v7924 : BitVec 32 := Scalar.muli v234 c1_i32_8064
  let v7925 : BitVec 32 := Scalar.addi c0_i32_8065 v7924
  v7925.toNat
def k0_dev192 (d0 : Dev nD) : Nat :=
  let c0_i32_8087 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_8086 : BitVec 32 := 1#32
  let v7935 : BitVec 32 := Scalar.muli v160 c1_i32_8086
  let v7936 : BitVec 32 := Scalar.addi c0_i32_8087 v7935
  v7936.toNat
def k0_dev193 (d0 : Dev nD) : Nat :=
  let c0_i32_8123 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_8122 : BitVec 32 := 1#32
  let v7961 : BitVec 32 := Scalar.muli v160 c1_i32_8122
  let v7962 : BitVec 32 := Scalar.addi c0_i32_8123 v7961
  v7962.toNat
def k0_dev194 (d0 : Dev nD) : Nat :=
  let c0_i32_8145 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_8144 : BitVec 32 := 1#32
  let v7972 : BitVec 32 := Scalar.muli v234 c1_i32_8144
  let v7973 : BitVec 32 := Scalar.addi c0_i32_8145 v7972
  v7973.toNat
def k0_dev195 (d0 : Dev nD) : Nat :=
  let c0_i32_8181 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_8180 : BitVec 32 := 1#32
  let v7998 : BitVec 32 := Scalar.muli v234 c1_i32_8180
  let v7999 : BitVec 32 := Scalar.addi c0_i32_8181 v7998
  v7999.toNat
def k0_dev196 (d0 : Dev nD) : Nat :=
  let c0_i32_8203 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_8202 : BitVec 32 := 1#32
  let v8009 : BitVec 32 := Scalar.muli v160 c1_i32_8202
  let v8010 : BitVec 32 := Scalar.addi c0_i32_8203 v8009
  v8010.toNat
def k0_dev197 (d0 : Dev nD) : Nat :=
  let c0_i32_8239 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_8238 : BitVec 32 := 1#32
  let v8035 : BitVec 32 := Scalar.muli v160 c1_i32_8238
  let v8036 : BitVec 32 := Scalar.addi c0_i32_8239 v8035
  v8036.toNat
def k0_dev198 (d0 : Dev nD) : Nat :=
  let c0_i32_8261 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_8260 : BitVec 32 := 1#32
  let v8046 : BitVec 32 := Scalar.muli v234 c1_i32_8260
  let v8047 : BitVec 32 := Scalar.addi c0_i32_8261 v8046
  v8047.toNat
def k0_dev199 (d0 : Dev nD) : Nat :=
  let c0_i32_8393 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_8392 : BitVec 32 := 1#32
  let v8234 : BitVec 32 := Scalar.muli v234 c1_i32_8392
  let v8235 : BitVec 32 := Scalar.addi c0_i32_8393 v8234
  v8235.toNat
def k0_dev200 (d0 : Dev nD) : Nat :=
  let c0_i32_8415 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_8414 : BitVec 32 := 1#32
  let v8245 : BitVec 32 := Scalar.muli v160 c1_i32_8414
  let v8246 : BitVec 32 := Scalar.addi c0_i32_8415 v8245
  v8246.toNat
def k0_dev201 (d0 : Dev nD) : Nat :=
  let c0_i32_8451 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_8450 : BitVec 32 := 1#32
  let v8271 : BitVec 32 := Scalar.muli v160 c1_i32_8450
  let v8272 : BitVec 32 := Scalar.addi c0_i32_8451 v8271
  v8272.toNat
def k0_dev202 (d0 : Dev nD) : Nat :=
  let c0_i32_8473 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_8472 : BitVec 32 := 1#32
  let v8282 : BitVec 32 := Scalar.muli v234 c1_i32_8472
  let v8283 : BitVec 32 := Scalar.addi c0_i32_8473 v8282
  v8283.toNat
def k0_dev203 (d0 : Dev nD) : Nat :=
  let c0_i32_8509 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_8508 : BitVec 32 := 1#32
  let v8308 : BitVec 32 := Scalar.muli v234 c1_i32_8508
  let v8309 : BitVec 32 := Scalar.addi c0_i32_8509 v8308
  v8309.toNat
def k0_dev204 (d0 : Dev nD) : Nat :=
  let c0_i32_8531 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_8530 : BitVec 32 := 1#32
  let v8319 : BitVec 32 := Scalar.muli v160 c1_i32_8530
  let v8320 : BitVec 32 := Scalar.addi c0_i32_8531 v8319
  v8320.toNat
def k0_dev205 (d0 : Dev nD) : Nat :=
  let c0_i32_8567 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_8566 : BitVec 32 := 1#32
  let v8345 : BitVec 32 := Scalar.muli v160 c1_i32_8566
  let v8346 : BitVec 32 := Scalar.addi c0_i32_8567 v8345
  v8346.toNat
def k0_dev206 (d0 : Dev nD) : Nat :=
  let c0_i32_8589 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_8588 : BitVec 32 := 1#32
  let v8356 : BitVec 32 := Scalar.muli v234 c1_i32_8588
  let v8357 : BitVec 32 := Scalar.addi c0_i32_8589 v8356
  v8357.toNat
def k0_dev207 (d0 : Dev nD) : Nat :=
  let c0_i32_8721 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_8720 : BitVec 32 := 1#32
  let v8544 : BitVec 32 := Scalar.muli v234 c1_i32_8720
  let v8545 : BitVec 32 := Scalar.addi c0_i32_8721 v8544
  v8545.toNat
def k0_dev208 (d0 : Dev nD) : Nat :=
  let c0_i32_8743 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_8742 : BitVec 32 := 1#32
  let v8555 : BitVec 32 := Scalar.muli v160 c1_i32_8742
  let v8556 : BitVec 32 := Scalar.addi c0_i32_8743 v8555
  v8556.toNat
def k0_dev209 (d0 : Dev nD) : Nat :=
  let c0_i32_8779 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_8778 : BitVec 32 := 1#32
  let v8581 : BitVec 32 := Scalar.muli v160 c1_i32_8778
  let v8582 : BitVec 32 := Scalar.addi c0_i32_8779 v8581
  v8582.toNat
def k0_dev210 (d0 : Dev nD) : Nat :=
  let c0_i32_8801 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_8800 : BitVec 32 := 1#32
  let v8592 : BitVec 32 := Scalar.muli v234 c1_i32_8800
  let v8593 : BitVec 32 := Scalar.addi c0_i32_8801 v8592
  v8593.toNat
def k0_dev211 (d0 : Dev nD) : Nat :=
  let c0_i32_8837 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_8836 : BitVec 32 := 1#32
  let v8618 : BitVec 32 := Scalar.muli v234 c1_i32_8836
  let v8619 : BitVec 32 := Scalar.addi c0_i32_8837 v8618
  v8619.toNat
def k0_dev212 (d0 : Dev nD) : Nat :=
  let c0_i32_8859 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_8858 : BitVec 32 := 1#32
  let v8629 : BitVec 32 := Scalar.muli v160 c1_i32_8858
  let v8630 : BitVec 32 := Scalar.addi c0_i32_8859 v8629
  v8630.toNat
def k0_dev213 (d0 : Dev nD) : Nat :=
  let c0_i32_8895 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_8894 : BitVec 32 := 1#32
  let v8655 : BitVec 32 := Scalar.muli v160 c1_i32_8894
  let v8656 : BitVec 32 := Scalar.addi c0_i32_8895 v8655
  v8656.toNat
def k0_dev214 (d0 : Dev nD) : Nat :=
  let c0_i32_8917 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_8916 : BitVec 32 := 1#32
  let v8666 : BitVec 32 := Scalar.muli v234 c1_i32_8916
  let v8667 : BitVec 32 := Scalar.addi c0_i32_8917 v8666
  v8667.toNat
def k0_dev215 (d0 : Dev nD) : Nat :=
  let c0_i32_9049 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_9048 : BitVec 32 := 1#32
  let v8854 : BitVec 32 := Scalar.muli v234 c1_i32_9048
  let v8855 : BitVec 32 := Scalar.addi c0_i32_9049 v8854
  v8855.toNat
def k0_dev216 (d0 : Dev nD) : Nat :=
  let c0_i32_9071 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_9070 : BitVec 32 := 1#32
  let v8865 : BitVec 32 := Scalar.muli v160 c1_i32_9070
  let v8866 : BitVec 32 := Scalar.addi c0_i32_9071 v8865
  v8866.toNat
def k0_dev217 (d0 : Dev nD) : Nat :=
  let c0_i32_9107 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_9106 : BitVec 32 := 1#32
  let v8891 : BitVec 32 := Scalar.muli v160 c1_i32_9106
  let v8892 : BitVec 32 := Scalar.addi c0_i32_9107 v8891
  v8892.toNat
def k0_dev218 (d0 : Dev nD) : Nat :=
  let c0_i32_9129 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_9128 : BitVec 32 := 1#32
  let v8902 : BitVec 32 := Scalar.muli v234 c1_i32_9128
  let v8903 : BitVec 32 := Scalar.addi c0_i32_9129 v8902
  v8903.toNat
def k0_dev219 (d0 : Dev nD) : Nat :=
  let c0_i32_9165 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_9164 : BitVec 32 := 1#32
  let v8928 : BitVec 32 := Scalar.muli v234 c1_i32_9164
  let v8929 : BitVec 32 := Scalar.addi c0_i32_9165 v8928
  v8929.toNat
def k0_dev220 (d0 : Dev nD) : Nat :=
  let c0_i32_9187 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_9186 : BitVec 32 := 1#32
  let v8939 : BitVec 32 := Scalar.muli v160 c1_i32_9186
  let v8940 : BitVec 32 := Scalar.addi c0_i32_9187 v8939
  v8940.toNat
def k0_dev221 (d0 : Dev nD) : Nat :=
  let c0_i32_9223 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_9222 : BitVec 32 := 1#32
  let v8965 : BitVec 32 := Scalar.muli v160 c1_i32_9222
  let v8966 : BitVec 32 := Scalar.addi c0_i32_9223 v8965
  v8966.toNat
def k0_dev222 (d0 : Dev nD) : Nat :=
  let c0_i32_9245 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_9244 : BitVec 32 := 1#32
  let v8976 : BitVec 32 := Scalar.muli v234 c1_i32_9244
  let v8977 : BitVec 32 := Scalar.addi c0_i32_9245 v8976
  v8977.toNat
def k0_dev223 (d0 : Dev nD) : Nat :=
  let c0_i32_9377 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_9376 : BitVec 32 := 1#32
  let v9164 : BitVec 32 := Scalar.muli v234 c1_i32_9376
  let v9165 : BitVec 32 := Scalar.addi c0_i32_9377 v9164
  v9165.toNat
def k0_dev224 (d0 : Dev nD) : Nat :=
  let c0_i32_9399 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_9398 : BitVec 32 := 1#32
  let v9175 : BitVec 32 := Scalar.muli v160 c1_i32_9398
  let v9176 : BitVec 32 := Scalar.addi c0_i32_9399 v9175
  v9176.toNat
def k0_dev225 (d0 : Dev nD) : Nat :=
  let c0_i32_9435 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_9434 : BitVec 32 := 1#32
  let v9201 : BitVec 32 := Scalar.muli v160 c1_i32_9434
  let v9202 : BitVec 32 := Scalar.addi c0_i32_9435 v9201
  v9202.toNat
def k0_dev226 (d0 : Dev nD) : Nat :=
  let c0_i32_9457 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_9456 : BitVec 32 := 1#32
  let v9212 : BitVec 32 := Scalar.muli v234 c1_i32_9456
  let v9213 : BitVec 32 := Scalar.addi c0_i32_9457 v9212
  v9213.toNat
def k0_dev227 (d0 : Dev nD) : Nat :=
  let c0_i32_9493 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_9492 : BitVec 32 := 1#32
  let v9238 : BitVec 32 := Scalar.muli v234 c1_i32_9492
  let v9239 : BitVec 32 := Scalar.addi c0_i32_9493 v9238
  v9239.toNat
def k0_dev228 (d0 : Dev nD) : Nat :=
  let c0_i32_9515 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_9514 : BitVec 32 := 1#32
  let v9249 : BitVec 32 := Scalar.muli v160 c1_i32_9514
  let v9250 : BitVec 32 := Scalar.addi c0_i32_9515 v9249
  v9250.toNat
def k0_dev229 (d0 : Dev nD) : Nat :=
  let c0_i32_9551 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_9550 : BitVec 32 := 1#32
  let v9275 : BitVec 32 := Scalar.muli v160 c1_i32_9550
  let v9276 : BitVec 32 := Scalar.addi c0_i32_9551 v9275
  v9276.toNat
def k0_dev230 (d0 : Dev nD) : Nat :=
  let c0_i32_9573 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_9572 : BitVec 32 := 1#32
  let v9286 : BitVec 32 := Scalar.muli v234 c1_i32_9572
  let v9287 : BitVec 32 := Scalar.addi c0_i32_9573 v9286
  v9287.toNat
def k0_dev231 (d0 : Dev nD) : Nat :=
  let c0_i32_9705 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_9704 : BitVec 32 := 1#32
  let v9474 : BitVec 32 := Scalar.muli v234 c1_i32_9704
  let v9475 : BitVec 32 := Scalar.addi c0_i32_9705 v9474
  v9475.toNat
def k0_dev232 (d0 : Dev nD) : Nat :=
  let c0_i32_9727 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_9726 : BitVec 32 := 1#32
  let v9485 : BitVec 32 := Scalar.muli v160 c1_i32_9726
  let v9486 : BitVec 32 := Scalar.addi c0_i32_9727 v9485
  v9486.toNat
def k0_dev233 (d0 : Dev nD) : Nat :=
  let c0_i32_9763 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_9762 : BitVec 32 := 1#32
  let v9511 : BitVec 32 := Scalar.muli v160 c1_i32_9762
  let v9512 : BitVec 32 := Scalar.addi c0_i32_9763 v9511
  v9512.toNat
def k0_dev234 (d0 : Dev nD) : Nat :=
  let c0_i32_9785 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_9784 : BitVec 32 := 1#32
  let v9522 : BitVec 32 := Scalar.muli v234 c1_i32_9784
  let v9523 : BitVec 32 := Scalar.addi c0_i32_9785 v9522
  v9523.toNat
def k0_dev235 (d0 : Dev nD) : Nat :=
  let c0_i32_9821 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_9820 : BitVec 32 := 1#32
  let v9548 : BitVec 32 := Scalar.muli v234 c1_i32_9820
  let v9549 : BitVec 32 := Scalar.addi c0_i32_9821 v9548
  v9549.toNat
def k0_dev236 (d0 : Dev nD) : Nat :=
  let c0_i32_9843 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_9842 : BitVec 32 := 1#32
  let v9559 : BitVec 32 := Scalar.muli v160 c1_i32_9842
  let v9560 : BitVec 32 := Scalar.addi c0_i32_9843 v9559
  v9560.toNat
def k0_dev237 (d0 : Dev nD) : Nat :=
  let c0_i32_9879 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_9878 : BitVec 32 := 1#32
  let v9585 : BitVec 32 := Scalar.muli v160 c1_i32_9878
  let v9586 : BitVec 32 := Scalar.addi c0_i32_9879 v9585
  v9586.toNat
def k0_dev238 (d0 : Dev nD) : Nat :=
  let c0_i32_9901 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_9900 : BitVec 32 := 1#32
  let v9596 : BitVec 32 := Scalar.muli v234 c1_i32_9900
  let v9597 : BitVec 32 := Scalar.addi c0_i32_9901 v9596
  v9597.toNat
def k0_dev239 (d0 : Dev nD) : Nat :=
  let c0_i32_10034 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_10033 : BitVec 32 := 1#32
  let v9784 : BitVec 32 := Scalar.muli v234 c1_i32_10033
  let v9785 : BitVec 32 := Scalar.addi c0_i32_10034 v9784
  v9785.toNat
def k0_dev240 (d0 : Dev nD) : Nat :=
  let c0_i32_10056 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_10055 : BitVec 32 := 1#32
  let v9795 : BitVec 32 := Scalar.muli v160 c1_i32_10055
  let v9796 : BitVec 32 := Scalar.addi c0_i32_10056 v9795
  v9796.toNat
def k0_dev241 (d0 : Dev nD) : Nat :=
  let c0_i32_10092 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_10091 : BitVec 32 := 1#32
  let v9821 : BitVec 32 := Scalar.muli v160 c1_i32_10091
  let v9822 : BitVec 32 := Scalar.addi c0_i32_10092 v9821
  v9822.toNat
def k0_dev242 (d0 : Dev nD) : Nat :=
  let c0_i32_10114 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_10113 : BitVec 32 := 1#32
  let v9832 : BitVec 32 := Scalar.muli v234 c1_i32_10113
  let v9833 : BitVec 32 := Scalar.addi c0_i32_10114 v9832
  v9833.toNat
def k0_dev243 (d0 : Dev nD) : Nat :=
  let c0_i32_10150 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_10149 : BitVec 32 := 1#32
  let v9858 : BitVec 32 := Scalar.muli v234 c1_i32_10149
  let v9859 : BitVec 32 := Scalar.addi c0_i32_10150 v9858
  v9859.toNat
def k0_dev244 (d0 : Dev nD) : Nat :=
  let c0_i32_10172 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_10171 : BitVec 32 := 1#32
  let v9869 : BitVec 32 := Scalar.muli v160 c1_i32_10171
  let v9870 : BitVec 32 := Scalar.addi c0_i32_10172 v9869
  v9870.toNat
def k0_dev245 (d0 : Dev nD) : Nat :=
  let c0_i32_10208 : BitVec 32 := 0#32
  let c8_i32_80 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v159 : BitVec 32 := Scalar.muli c8_i32_80 v120
  let c2_i32_71 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v144 : BitVec 32 := Scalar.muli c2_i32_71 v143
  let c2_i32_72 : BitVec 32 := 2#32
  let c0_i32_73 : BitVec 32 := 0#32
  let v145 : BitVec 1 := Scalar.cmpi .eq c2_i32_72 c0_i32_73
  let c1_i32_74 : BitVec 32 := 1#32
  let v146 : BitVec 32 := Scalar.select v145 c1_i32_74 c2_i32_72
  let v147 : BitVec 32 := Scalar.remsi v143 v146
  let c0_i32_76 : BitVec 32 := 0#32
  let v149 : BitVec 1 := Scalar.cmpi .slt v147 c0_i32_76
  let c0_i32_77 : BitVec 32 := 0#32
  let v150 : BitVec 1 := Scalar.cmpi .slt v146 c0_i32_77
  let v151 : BitVec 1 := Scalar.xori v149 v150
  let c0_i32_75 : BitVec 32 := 0#32
  let v148 : BitVec 1 := Scalar.cmpi .ne v147 c0_i32_75
  let v152 : BitVec 1 := Scalar.andi v151 v148
  let v153 : BitVec 32 := Scalar.addi v147 v146
  let v154 : BitVec 32 := Scalar.select v152 v153 v147
  let c0_i32_78 : BitVec 32 := 0#32
  let v155 : BitVec 1 := Scalar.cmpi .eq v154 c0_i32_78
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_79 : BitVec 32 := 1#32
  let v156 : BitVec 32 := Scalar.subi c1_i32_79 v100
  let v157 : BitVec 32 := Scalar.select v155 v100 v156
  let v158 : BitVec 32 := Scalar.addi v144 v157
  let v160 : BitVec 32 := Scalar.addi v159 v158
  let c1_i32_10207 : BitVec 32 := 1#32
  let v9895 : BitVec 32 := Scalar.muli v160 c1_i32_10207
  let v9896 : BitVec 32 := Scalar.addi c0_i32_10208 v9895
  v9896.toNat
def k0_dev246 (d0 : Dev nD) : Nat :=
  let c0_i32_10230 : BitVec 32 := 0#32
  let c8_i32_124 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c32_i32_81 : BitVec 32 := 32#32
  let v161 : BitVec 32 := Scalar.addi v87 c32_i32_81
  let c1_i32_82 : BitVec 32 := 1#32
  let v162 : BitVec 32 := Scalar.subi v161 c1_i32_82
  let c32_i32_83 : BitVec 32 := 32#32
  let c0_i32_84 : BitVec 32 := 0#32
  let v163 : BitVec 1 := Scalar.cmpi .eq c32_i32_83 c0_i32_84
  let c1_i32_85 : BitVec 32 := 1#32
  let v164 : BitVec 32 := Scalar.select v163 c1_i32_85 c32_i32_83
  let v165 : BitVec 32 := Scalar.remsi v162 v164
  let c0_i32_87 : BitVec 32 := 0#32
  let v167 : BitVec 1 := Scalar.cmpi .slt v165 c0_i32_87
  let c0_i32_88 : BitVec 32 := 0#32
  let v168 : BitVec 1 := Scalar.cmpi .slt v164 c0_i32_88
  let v169 : BitVec 1 := Scalar.xori v167 v168
  let c0_i32_86 : BitVec 32 := 0#32
  let v166 : BitVec 1 := Scalar.cmpi .ne v165 c0_i32_86
  let v170 : BitVec 1 := Scalar.andi v169 v166
  let v171 : BitVec 32 := Scalar.addi v165 v164
  let v172 : BitVec 32 := Scalar.select v170 v171 v165
  let c16_i32_92 : BitVec 32 := 16#32
  let v175 : BitVec 1 := Scalar.cmpi .slt v172 c16_i32_92
  let c31_i32_93 : BitVec 32 := 31#32
  let v176 : BitVec 32 := Scalar.subi c31_i32_93 v172
  let v177 : BitVec 32 := Scalar.select v175 v172 v176
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c4_i32_94 : BitVec 32 := 4#32
  let c0_i32_97 : BitVec 32 := 0#32
  let v184 : BitVec 1 := Scalar.cmpi .sgt c4_i32_94 c0_i32_97
  let v185 : BitVec 32 := Scalar.extui v184
  let c0_i32_98 : BitVec 32 := 0#32
  let v186 : BitVec 1 := Scalar.cmpi .slt c4_i32_94 c0_i32_98
  let v187 : BitVec 32 := Scalar.extui v186
  let v188 : BitVec 32 := Scalar.subi v185 v187
  let v189 : BitVec 1 := Scalar.cmpi .ne v183 v188
  let v190 : BitVec 32 := Scalar.remsi v177 c4_i32_94
  let c0_i32_99 : BitVec 32 := 0#32
  let v191 : BitVec 1 := Scalar.cmpi .ne v190 c0_i32_99
  let v192 : BitVec 1 := Scalar.andi v189 v191
  let v178 : BitVec 32 := Scalar.divsi v177 c4_i32_94
  let c1_i32_100 : BitVec 32 := 1#32
  let v193 : BitVec 32 := Scalar.subi v178 c1_i32_100
  let v194 : BitVec 32 := Scalar.select v192 v193 v178
  let v233 : BitVec 32 := Scalar.muli c8_i32_124 v194
  let c2_i32_115 : BitVec 32 := 2#32
  let c2_i32_107 : BitVec 32 := 2#32
  let c0_i32_108 : BitVec 32 := 0#32
  let v205 : BitVec 1 := Scalar.cmpi .eq c2_i32_107 c0_i32_108
  let c1_i32_109 : BitVec 32 := 1#32
  let v206 : BitVec 32 := Scalar.select v205 c1_i32_109 c2_i32_107
  let v207 : BitVec 32 := Scalar.remsi v194 v206
  let c0_i32_111 : BitVec 32 := 0#32
  let v209 : BitVec 1 := Scalar.cmpi .slt v207 c0_i32_111
  let c0_i32_112 : BitVec 32 := 0#32
  let v210 : BitVec 1 := Scalar.cmpi .slt v206 c0_i32_112
  let v211 : BitVec 1 := Scalar.xori v209 v210
  let c0_i32_110 : BitVec 32 := 0#32
  let v208 : BitVec 1 := Scalar.cmpi .ne v207 c0_i32_110
  let v212 : BitVec 1 := Scalar.andi v211 v208
  let v213 : BitVec 32 := Scalar.addi v207 v206
  let v214 : BitVec 32 := Scalar.select v212 v213 v207
  let c0_i32_113 : BitVec 32 := 0#32
  let v215 : BitVec 1 := Scalar.cmpi .eq v214 c0_i32_113
  let c4_i32_101 : BitVec 32 := 4#32
  let c0_i32_102 : BitVec 32 := 0#32
  let v195 : BitVec 1 := Scalar.cmpi .eq c4_i32_101 c0_i32_102
  let c1_i32_103 : BitVec 32 := 1#32
  let v196 : BitVec 32 := Scalar.select v195 c1_i32_103 c4_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c3_i32_114 : BitVec 32 := 3#32
  let v216 : BitVec 32 := Scalar.subi c3_i32_114 v204
  let v217 : BitVec 32 := Scalar.select v215 v204 v216
  let v218 : BitVec 32 := Scalar.muli c2_i32_115 v217
  let c2_i32_116 : BitVec 32 := 2#32
  let c0_i32_117 : BitVec 32 := 0#32
  let v219 : BitVec 1 := Scalar.cmpi .eq c2_i32_116 c0_i32_117
  let c1_i32_118 : BitVec 32 := 1#32
  let v220 : BitVec 32 := Scalar.select v219 c1_i32_118 c2_i32_116
  let v221 : BitVec 32 := Scalar.remsi v217 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c0_i32_122 : BitVec 32 := 0#32
  let v229 : BitVec 1 := Scalar.cmpi .eq v228 c0_i32_122
  let c16_i32_89 : BitVec 32 := 16#32
  let v173 : BitVec 1 := Scalar.cmpi .slt v172 c16_i32_89
  let c0_i32_90 : BitVec 32 := 0#32
  let c1_i32_91 : BitVec 32 := 1#32
  let v174 : BitVec 32 := Scalar.select v173 c0_i32_90 c1_i32_91
  let c1_i32_123 : BitVec 32 := 1#32
  let v230 : BitVec 32 := Scalar.subi c1_i32_123 v174
  let v231 : BitVec 32 := Scalar.select v229 v174 v230
  let v232 : BitVec 32 := Scalar.addi v218 v231
  let v234 : BitVec 32 := Scalar.addi v233 v232
  let c1_i32_10229 : BitVec 32 := 1#32
  let v9906 : BitVec 32 := Scalar.muli v234 c1_i32_10229
  let v9907 : BitVec 32 := Scalar.addi c0_i32_10230 v9906
  v9907.toNat
def k0_dev247 (d0 : Dev nD) : Nat :=
  let c0_i32_10479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_10473 : BitVec 32 := 1#32
  let v10185 : BitVec 32 := Scalar.addi v2 c1_i32_10473
  let c32_i32_10474 : BitVec 32 := 32#32
  let v10186 : BitVec 32 := Scalar.remsi v10185 c32_i32_10474
  let c1_i32_10478 : BitVec 32 := 1#32
  let v10187 : BitVec 32 := Scalar.muli v10186 c1_i32_10478
  let v10188 : BitVec 32 := Scalar.addi c0_i32_10479 v10187
  v10188.toNat
def k0_dev248 (d0 : Dev nD) : Nat :=
  let c0_i32_10488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_10482 : BitVec 32 := 2#32
  let v10195 : BitVec 32 := Scalar.addi v2 c2_i32_10482
  let c32_i32_10483 : BitVec 32 := 32#32
  let v10196 : BitVec 32 := Scalar.remsi v10195 c32_i32_10483
  let c1_i32_10487 : BitVec 32 := 1#32
  let v10197 : BitVec 32 := Scalar.muli v10196 c1_i32_10487
  let v10198 : BitVec 32 := Scalar.addi c0_i32_10488 v10197
  v10198.toNat
def k0_dev249 (d0 : Dev nD) : Nat :=
  let c0_i32_10497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_10491 : BitVec 32 := 3#32
  let v10205 : BitVec 32 := Scalar.addi v2 c3_i32_10491
  let c32_i32_10492 : BitVec 32 := 32#32
  let v10206 : BitVec 32 := Scalar.remsi v10205 c32_i32_10492
  let c1_i32_10496 : BitVec 32 := 1#32
  let v10207 : BitVec 32 := Scalar.muli v10206 c1_i32_10496
  let v10208 : BitVec 32 := Scalar.addi c0_i32_10497 v10207
  v10208.toNat
def k0_dev250 (d0 : Dev nD) : Nat :=
  let c0_i32_10506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_10500 : BitVec 32 := 4#32
  let v10215 : BitVec 32 := Scalar.addi v2 c4_i32_10500
  let c32_i32_10501 : BitVec 32 := 32#32
  let v10216 : BitVec 32 := Scalar.remsi v10215 c32_i32_10501
  let c1_i32_10505 : BitVec 32 := 1#32
  let v10217 : BitVec 32 := Scalar.muli v10216 c1_i32_10505
  let v10218 : BitVec 32 := Scalar.addi c0_i32_10506 v10217
  v10218.toNat
def k0_dev251 (d0 : Dev nD) : Nat :=
  let c0_i32_10515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_10509 : BitVec 32 := 5#32
  let v10225 : BitVec 32 := Scalar.addi v2 c5_i32_10509
  let c32_i32_10510 : BitVec 32 := 32#32
  let v10226 : BitVec 32 := Scalar.remsi v10225 c32_i32_10510
  let c1_i32_10514 : BitVec 32 := 1#32
  let v10227 : BitVec 32 := Scalar.muli v10226 c1_i32_10514
  let v10228 : BitVec 32 := Scalar.addi c0_i32_10515 v10227
  v10228.toNat
def k0_dev252 (d0 : Dev nD) : Nat :=
  let c0_i32_10524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_10518 : BitVec 32 := 6#32
  let v10235 : BitVec 32 := Scalar.addi v2 c6_i32_10518
  let c32_i32_10519 : BitVec 32 := 32#32
  let v10236 : BitVec 32 := Scalar.remsi v10235 c32_i32_10519
  let c1_i32_10523 : BitVec 32 := 1#32
  let v10237 : BitVec 32 := Scalar.muli v10236 c1_i32_10523
  let v10238 : BitVec 32 := Scalar.addi c0_i32_10524 v10237
  v10238.toNat
def k0_dev253 (d0 : Dev nD) : Nat :=
  let c0_i32_10533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_10527 : BitVec 32 := 7#32
  let v10245 : BitVec 32 := Scalar.addi v2 c7_i32_10527
  let c32_i32_10528 : BitVec 32 := 32#32
  let v10246 : BitVec 32 := Scalar.remsi v10245 c32_i32_10528
  let c1_i32_10532 : BitVec 32 := 1#32
  let v10247 : BitVec 32 := Scalar.muli v10246 c1_i32_10532
  let v10248 : BitVec 32 := Scalar.addi c0_i32_10533 v10247
  v10248.toNat
def k0_dev254 (d0 : Dev nD) : Nat :=
  let c0_i32_10542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10536 : BitVec 32 := 8#32
  let v10255 : BitVec 32 := Scalar.addi v2 c8_i32_10536
  let c32_i32_10537 : BitVec 32 := 32#32
  let v10256 : BitVec 32 := Scalar.remsi v10255 c32_i32_10537
  let c1_i32_10541 : BitVec 32 := 1#32
  let v10257 : BitVec 32 := Scalar.muli v10256 c1_i32_10541
  let v10258 : BitVec 32 := Scalar.addi c0_i32_10542 v10257
  v10258.toNat
def k0_dev255 (d0 : Dev nD) : Nat :=
  let c0_i32_10551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_10545 : BitVec 32 := 9#32
  let v10265 : BitVec 32 := Scalar.addi v2 c9_i32_10545
  let c32_i32_10546 : BitVec 32 := 32#32
  let v10266 : BitVec 32 := Scalar.remsi v10265 c32_i32_10546
  let c1_i32_10550 : BitVec 32 := 1#32
  let v10267 : BitVec 32 := Scalar.muli v10266 c1_i32_10550
  let v10268 : BitVec 32 := Scalar.addi c0_i32_10551 v10267
  v10268.toNat
def k0_dev256 (d0 : Dev nD) : Nat :=
  let c0_i32_10560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_10554 : BitVec 32 := 10#32
  let v10275 : BitVec 32 := Scalar.addi v2 c10_i32_10554
  let c32_i32_10555 : BitVec 32 := 32#32
  let v10276 : BitVec 32 := Scalar.remsi v10275 c32_i32_10555
  let c1_i32_10559 : BitVec 32 := 1#32
  let v10277 : BitVec 32 := Scalar.muli v10276 c1_i32_10559
  let v10278 : BitVec 32 := Scalar.addi c0_i32_10560 v10277
  v10278.toNat
def k0_dev257 (d0 : Dev nD) : Nat :=
  let c0_i32_10569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_10563 : BitVec 32 := 11#32
  let v10285 : BitVec 32 := Scalar.addi v2 c11_i32_10563
  let c32_i32_10564 : BitVec 32 := 32#32
  let v10286 : BitVec 32 := Scalar.remsi v10285 c32_i32_10564
  let c1_i32_10568 : BitVec 32 := 1#32
  let v10287 : BitVec 32 := Scalar.muli v10286 c1_i32_10568
  let v10288 : BitVec 32 := Scalar.addi c0_i32_10569 v10287
  v10288.toNat
def k0_dev258 (d0 : Dev nD) : Nat :=
  let c0_i32_10578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_10572 : BitVec 32 := 12#32
  let v10295 : BitVec 32 := Scalar.addi v2 c12_i32_10572
  let c32_i32_10573 : BitVec 32 := 32#32
  let v10296 : BitVec 32 := Scalar.remsi v10295 c32_i32_10573
  let c1_i32_10577 : BitVec 32 := 1#32
  let v10297 : BitVec 32 := Scalar.muli v10296 c1_i32_10577
  let v10298 : BitVec 32 := Scalar.addi c0_i32_10578 v10297
  v10298.toNat
def k0_dev259 (d0 : Dev nD) : Nat :=
  let c0_i32_10587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_10581 : BitVec 32 := 13#32
  let v10305 : BitVec 32 := Scalar.addi v2 c13_i32_10581
  let c32_i32_10582 : BitVec 32 := 32#32
  let v10306 : BitVec 32 := Scalar.remsi v10305 c32_i32_10582
  let c1_i32_10586 : BitVec 32 := 1#32
  let v10307 : BitVec 32 := Scalar.muli v10306 c1_i32_10586
  let v10308 : BitVec 32 := Scalar.addi c0_i32_10587 v10307
  v10308.toNat
def k0_dev260 (d0 : Dev nD) : Nat :=
  let c0_i32_10596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_10590 : BitVec 32 := 14#32
  let v10315 : BitVec 32 := Scalar.addi v2 c14_i32_10590
  let c32_i32_10591 : BitVec 32 := 32#32
  let v10316 : BitVec 32 := Scalar.remsi v10315 c32_i32_10591
  let c1_i32_10595 : BitVec 32 := 1#32
  let v10317 : BitVec 32 := Scalar.muli v10316 c1_i32_10595
  let v10318 : BitVec 32 := Scalar.addi c0_i32_10596 v10317
  v10318.toNat
def k0_dev261 (d0 : Dev nD) : Nat :=
  let c0_i32_10605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_10599 : BitVec 32 := 15#32
  let v10325 : BitVec 32 := Scalar.addi v2 c15_i32_10599
  let c32_i32_10600 : BitVec 32 := 32#32
  let v10326 : BitVec 32 := Scalar.remsi v10325 c32_i32_10600
  let c1_i32_10604 : BitVec 32 := 1#32
  let v10327 : BitVec 32 := Scalar.muli v10326 c1_i32_10604
  let v10328 : BitVec 32 := Scalar.addi c0_i32_10605 v10327
  v10328.toNat
def k0_dev262 (d0 : Dev nD) : Nat :=
  let c0_i32_10614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_10608 : BitVec 32 := 16#32
  let v10335 : BitVec 32 := Scalar.addi v2 c16_i32_10608
  let c32_i32_10609 : BitVec 32 := 32#32
  let v10336 : BitVec 32 := Scalar.remsi v10335 c32_i32_10609
  let c1_i32_10613 : BitVec 32 := 1#32
  let v10337 : BitVec 32 := Scalar.muli v10336 c1_i32_10613
  let v10338 : BitVec 32 := Scalar.addi c0_i32_10614 v10337
  v10338.toNat
def k0_dev263 (d0 : Dev nD) : Nat :=
  let c0_i32_10623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_10617 : BitVec 32 := 17#32
  let v10345 : BitVec 32 := Scalar.addi v2 c17_i32_10617
  let c32_i32_10618 : BitVec 32 := 32#32
  let v10346 : BitVec 32 := Scalar.remsi v10345 c32_i32_10618
  let c1_i32_10622 : BitVec 32 := 1#32
  let v10347 : BitVec 32 := Scalar.muli v10346 c1_i32_10622
  let v10348 : BitVec 32 := Scalar.addi c0_i32_10623 v10347
  v10348.toNat
def k0_dev264 (d0 : Dev nD) : Nat :=
  let c0_i32_10632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_10626 : BitVec 32 := 18#32
  let v10355 : BitVec 32 := Scalar.addi v2 c18_i32_10626
  let c32_i32_10627 : BitVec 32 := 32#32
  let v10356 : BitVec 32 := Scalar.remsi v10355 c32_i32_10627
  let c1_i32_10631 : BitVec 32 := 1#32
  let v10357 : BitVec 32 := Scalar.muli v10356 c1_i32_10631
  let v10358 : BitVec 32 := Scalar.addi c0_i32_10632 v10357
  v10358.toNat
def k0_dev265 (d0 : Dev nD) : Nat :=
  let c0_i32_10641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_10635 : BitVec 32 := 19#32
  let v10365 : BitVec 32 := Scalar.addi v2 c19_i32_10635
  let c32_i32_10636 : BitVec 32 := 32#32
  let v10366 : BitVec 32 := Scalar.remsi v10365 c32_i32_10636
  let c1_i32_10640 : BitVec 32 := 1#32
  let v10367 : BitVec 32 := Scalar.muli v10366 c1_i32_10640
  let v10368 : BitVec 32 := Scalar.addi c0_i32_10641 v10367
  v10368.toNat
def k0_dev266 (d0 : Dev nD) : Nat :=
  let c0_i32_10650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_10644 : BitVec 32 := 20#32
  let v10375 : BitVec 32 := Scalar.addi v2 c20_i32_10644
  let c32_i32_10645 : BitVec 32 := 32#32
  let v10376 : BitVec 32 := Scalar.remsi v10375 c32_i32_10645
  let c1_i32_10649 : BitVec 32 := 1#32
  let v10377 : BitVec 32 := Scalar.muli v10376 c1_i32_10649
  let v10378 : BitVec 32 := Scalar.addi c0_i32_10650 v10377
  v10378.toNat
def k0_dev267 (d0 : Dev nD) : Nat :=
  let c0_i32_10659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_10653 : BitVec 32 := 21#32
  let v10385 : BitVec 32 := Scalar.addi v2 c21_i32_10653
  let c32_i32_10654 : BitVec 32 := 32#32
  let v10386 : BitVec 32 := Scalar.remsi v10385 c32_i32_10654
  let c1_i32_10658 : BitVec 32 := 1#32
  let v10387 : BitVec 32 := Scalar.muli v10386 c1_i32_10658
  let v10388 : BitVec 32 := Scalar.addi c0_i32_10659 v10387
  v10388.toNat
def k0_dev268 (d0 : Dev nD) : Nat :=
  let c0_i32_10668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_10662 : BitVec 32 := 22#32
  let v10395 : BitVec 32 := Scalar.addi v2 c22_i32_10662
  let c32_i32_10663 : BitVec 32 := 32#32
  let v10396 : BitVec 32 := Scalar.remsi v10395 c32_i32_10663
  let c1_i32_10667 : BitVec 32 := 1#32
  let v10397 : BitVec 32 := Scalar.muli v10396 c1_i32_10667
  let v10398 : BitVec 32 := Scalar.addi c0_i32_10668 v10397
  v10398.toNat
def k0_dev269 (d0 : Dev nD) : Nat :=
  let c0_i32_10677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_10671 : BitVec 32 := 23#32
  let v10405 : BitVec 32 := Scalar.addi v2 c23_i32_10671
  let c32_i32_10672 : BitVec 32 := 32#32
  let v10406 : BitVec 32 := Scalar.remsi v10405 c32_i32_10672
  let c1_i32_10676 : BitVec 32 := 1#32
  let v10407 : BitVec 32 := Scalar.muli v10406 c1_i32_10676
  let v10408 : BitVec 32 := Scalar.addi c0_i32_10677 v10407
  v10408.toNat
def k0_dev270 (d0 : Dev nD) : Nat :=
  let c0_i32_10686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_10680 : BitVec 32 := 24#32
  let v10415 : BitVec 32 := Scalar.addi v2 c24_i32_10680
  let c32_i32_10681 : BitVec 32 := 32#32
  let v10416 : BitVec 32 := Scalar.remsi v10415 c32_i32_10681
  let c1_i32_10685 : BitVec 32 := 1#32
  let v10417 : BitVec 32 := Scalar.muli v10416 c1_i32_10685
  let v10418 : BitVec 32 := Scalar.addi c0_i32_10686 v10417
  v10418.toNat
def k0_dev271 (d0 : Dev nD) : Nat :=
  let c0_i32_10695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_10689 : BitVec 32 := 25#32
  let v10425 : BitVec 32 := Scalar.addi v2 c25_i32_10689
  let c32_i32_10690 : BitVec 32 := 32#32
  let v10426 : BitVec 32 := Scalar.remsi v10425 c32_i32_10690
  let c1_i32_10694 : BitVec 32 := 1#32
  let v10427 : BitVec 32 := Scalar.muli v10426 c1_i32_10694
  let v10428 : BitVec 32 := Scalar.addi c0_i32_10695 v10427
  v10428.toNat
def k0_dev272 (d0 : Dev nD) : Nat :=
  let c0_i32_10704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_10698 : BitVec 32 := 26#32
  let v10435 : BitVec 32 := Scalar.addi v2 c26_i32_10698
  let c32_i32_10699 : BitVec 32 := 32#32
  let v10436 : BitVec 32 := Scalar.remsi v10435 c32_i32_10699
  let c1_i32_10703 : BitVec 32 := 1#32
  let v10437 : BitVec 32 := Scalar.muli v10436 c1_i32_10703
  let v10438 : BitVec 32 := Scalar.addi c0_i32_10704 v10437
  v10438.toNat
def k0_dev273 (d0 : Dev nD) : Nat :=
  let c0_i32_10713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_10707 : BitVec 32 := 27#32
  let v10445 : BitVec 32 := Scalar.addi v2 c27_i32_10707
  let c32_i32_10708 : BitVec 32 := 32#32
  let v10446 : BitVec 32 := Scalar.remsi v10445 c32_i32_10708
  let c1_i32_10712 : BitVec 32 := 1#32
  let v10447 : BitVec 32 := Scalar.muli v10446 c1_i32_10712
  let v10448 : BitVec 32 := Scalar.addi c0_i32_10713 v10447
  v10448.toNat
def k0_dev274 (d0 : Dev nD) : Nat :=
  let c0_i32_10722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_10716 : BitVec 32 := 28#32
  let v10455 : BitVec 32 := Scalar.addi v2 c28_i32_10716
  let c32_i32_10717 : BitVec 32 := 32#32
  let v10456 : BitVec 32 := Scalar.remsi v10455 c32_i32_10717
  let c1_i32_10721 : BitVec 32 := 1#32
  let v10457 : BitVec 32 := Scalar.muli v10456 c1_i32_10721
  let v10458 : BitVec 32 := Scalar.addi c0_i32_10722 v10457
  v10458.toNat
def k0_dev275 (d0 : Dev nD) : Nat :=
  let c0_i32_10731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_10725 : BitVec 32 := 29#32
  let v10465 : BitVec 32 := Scalar.addi v2 c29_i32_10725
  let c32_i32_10726 : BitVec 32 := 32#32
  let v10466 : BitVec 32 := Scalar.remsi v10465 c32_i32_10726
  let c1_i32_10730 : BitVec 32 := 1#32
  let v10467 : BitVec 32 := Scalar.muli v10466 c1_i32_10730
  let v10468 : BitVec 32 := Scalar.addi c0_i32_10731 v10467
  v10468.toNat
def k0_dev276 (d0 : Dev nD) : Nat :=
  let c0_i32_10740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_10734 : BitVec 32 := 30#32
  let v10475 : BitVec 32 := Scalar.addi v2 c30_i32_10734
  let c32_i32_10735 : BitVec 32 := 32#32
  let v10476 : BitVec 32 := Scalar.remsi v10475 c32_i32_10735
  let c1_i32_10739 : BitVec 32 := 1#32
  let v10477 : BitVec 32 := Scalar.muli v10476 c1_i32_10739
  let v10478 : BitVec 32 := Scalar.addi c0_i32_10740 v10477
  v10478.toNat
def k0_dev277 (d0 : Dev nD) : Nat :=
  let c0_i32_10749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_10743 : BitVec 32 := 31#32
  let v10485 : BitVec 32 := Scalar.addi v2 c31_i32_10743
  let c32_i32_10744 : BitVec 32 := 32#32
  let v10486 : BitVec 32 := Scalar.remsi v10485 c32_i32_10744
  let c1_i32_10748 : BitVec 32 := 1#32
  let v10487 : BitVec 32 := Scalar.muli v10486 c1_i32_10748
  let v10488 : BitVec 32 := Scalar.addi c0_i32_10749 v10487
  v10488.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Steps.lean ====
module

public import proofs.«01_k».proof.Proof.Gen.KernelIdeal.Skeleton

/-!
# The kernel's body, written once per kind of step

The printed body spells every step of the ring out. Here each kind of step is one definition over the
stripe `sid` (four column stripes; even ones travel forward round the ring, odd ones backward), the
step `s` and the slot of the double buffer, and `body_eq` says the printed body is these steps in turn.
-/

@[expose] public section

noncomputable section

namespace Cert.Ring

open Idealize.ShloMosaic Idealize.SL.Sem
open Cert.KernelIdeal Cert.KernelIdeal.Gen

variable {F : FTy → Type} [FloatOps F]

/-- A TensorCore program of this kernel that returns nothing. -/
abbrev P (F : FTy → Type) [FloatOps F] := Prog (TpuEff nD τ sig (Elt F) Λ₀ .tc) PUnit

/-! ## Names for the buffers and semaphores -/

abbrev xM : Memref sig .tc .vmem S4096x128 .f32 := Memref.whole cc0_stg0_0
abbrev wM : Memref sig .tc .vmem S128x8192 .f32 := Memref.whole cc0_stg1_0
abbrev outM : Memref sig .tc .vmem S128x8192 .f32 := Memref.whole cc0_stg2_0
abbrev accM : Memref sig .tc .vmem S4x2x128x2048 .f32 := Memref.whole cc0_scratch0
abbrev axM : Memref sig .tc .vmem S8x128 .f32 := Memref.whole cc0_scratch4
abbrev axrM : Memref sig .tc .vmem S32x8x128 .f32 := Memref.whole cc0_scratch5

/-- The slot of the double buffer used by step `s`. -/
def par (s : ℕ) : Fin 2 := ⟨s % 2, Nat.mod_lt _ (by decide)⟩

theorem inb_acc (sid : Fin 4) (b : Fin 2) : ∀ a, (![sid.val, b.val, 0, 0] : Fin 4 → ℕ) a + S1x1x128x2048.size a ≤ S4x2x128x2048.size a := by
  revert sid b; decide

theorem inb_sem (sid : Fin 4) (b : Fin 2) : ∀ a, (![sid.val, b.val] : Fin 2 → ℕ) a + S1x1.size a ≤ S4x2.size a := by
  revert sid b; decide

theorem inb_axr (o : Fin 32) : ∀ a, (![o.val, 0, 0] : Fin 3 → ℕ) a + S1x8x128.size a ≤ S32x8x128.size a := by
  revert o; decide

theorem inb_axs (o : Fin 32) : ∀ a, (![o.val] : Fin 1 → ℕ) a + S1.size a ≤ S32.size a := by
  revert o; decide

/-- The first column of stripe `sid`. -/
def colOf (sid : Fin 4) : ℕ := 4096 * (sid.val % 2) + 2048 * (sid.val / 2)

theorem inb_col (sid : Fin 4) : ∀ a, (![0, colOf sid] : Fin 2 → ℕ) a + S128x2048.size a ≤ S128x8192.size a := by
  revert sid; decide

theorem inb_half (r : Fin 2) : ∀ a, (![0, 4096 * r.val] : Fin 2 → ℕ) a + S128x4096.size a ≤ S128x8192.size a := by
  revert r; decide

/-- The rectangle of slot `b` of stripe `sid` in the accumulators. -/
abbrev accR (sid : Fin 4) (b : Fin 2) : Rect S4x2x128x2048 :=
  Rect.unit (s := S4x2x128x2048) ![sid.val, b.val, 0, 0] S1x1x128x2048.size (inb_acc sid b)

/-- Slot `b` of stripe `sid` of the accumulators, as the transfers name it. -/
abbrev slot (sid : Fin 4) (b : Fin 2) : Memref sig .tc .vmem S128x2048 .f32 :=
  (accM.slice (accR sid b) (fun _ => rfl)).squeeze S128x2048 squeezes_S1x1x128x2048_S128x2048

/-- The send, receive and credit semaphores of slot `b` of stripe `sid`. -/
abbrev sndS (sid : Fin 4) (b : Fin 2) : DmaSem sig :=
  ((cc0_scratch1.slice (Rect.unit (s := S4x2) ![sid.val, b.val] S1x1.size (inb_sem sid b))).squeeze S_ squeezes_S1x1_S_).sem
abbrev rcvS (sid : Fin 4) (b : Fin 2) : DmaSem sig :=
  ((cc0_scratch2.slice (Rect.unit (s := S4x2) ![sid.val, b.val] S1x1.size (inb_sem sid b))).squeeze S_ squeezes_S1x1_S_).sem
abbrev crdS (sid : Fin 4) (b : Fin 2) : Sem sig :=
  ((cc0_scratch3.slice (Rect.unit (s := S4x2) ![sid.val, b.val] S1x1.size (inb_sem sid b))).squeeze S_ squeezes_S1x1_S_).sem

/-- Slot `o` of the buffer of maxima, as the transfers name it, and its send and receive semaphores. -/
abbrev axR (o : Fin 32) : Rect S32x8x128 :=
  Rect.unit (s := S32x8x128) ![o.val, 0, 0] S1x8x128.size (inb_axr o)
abbrev axslot (o : Fin 32) : Memref sig .tc .vmem S8x128 .f32 :=
  (axrM.slice (axR o) (fun _ => rfl)).squeeze S8x128 squeezes_S1x8x128_S8x128
abbrev axsS (o : Fin 32) : DmaSem sig :=
  ((cc0_scratch6.slice (Rect.unit (s := S32) ![o.val] S1.size (inb_axs o))).squeeze S_ squeezes_S1_S_).sem
abbrev axrS (o : Fin 32) : DmaSem sig :=
  ((cc0_scratch7.slice (Rect.unit (s := S32) ![o.val] S1.size (inb_axs o))).squeeze S_ squeezes_S1_S_).sem

/-- The barrier semaphore. -/
abbrev barS : Sem sig := (SemArray.scalar (sig.barrier 0 rfl) : Sems sig S_).sem

/-! ## The devices addressed -/

/-- The next device round the ring, and the one before. -/
def fwdD (d0 : Dev nD) : Dev nD := ⟨k0_dev2 d0, k0_dev2_lt d0⟩
def bwdD (d0 : Dev nD) : Dev nD := ⟨k0_dev1 d0, k0_dev1_lt d0⟩

/-- Where stripe `sid` is sent, and who sends it here. -/
def toD (sid : Fin 4) (d0 : Dev nD) : Dev nD := if sid.val % 2 = 0 then fwdD d0 else bwdD d0
def fromD (sid : Fin 4) (d0 : Dev nD) : Dev nD := if sid.val % 2 = 0 then bwdD d0 else fwdD d0

/-- The device `o` places on in the mesh, as the kernel computes it. -/
def axDevN (o : ℕ) (d0 : Dev nD) : ℕ :=
  (Scalar.addi 0#32 (Scalar.muli (Scalar.remsi (Scalar.addi (Scalar.remsi (Scalar.divsi (Dev.word d0) 1#32) 32#32) (BitVec.ofNat 32 o)) 32#32) 1#32)).toNat

theorem axDevN_eq (o : Fin 32) (d0 : Dev nD) : axDevN o.val d0 = (d0.val + o.val) % 32 := by
  revert o d0; decide +kernel

def axD (o : Fin 32) (d0 : Dev nD) : Dev nD :=
  ⟨axDevN o.val d0, by rw [axDevN_eq]; exact Nat.mod_lt _ (by decide)⟩

/-- Reading a rectangle of a buffer and storing a whole rectangle. -/
abbrev ld {s : Shape} {e : EltTy} (m : Memref sig .tc .vmem s e) (off : Fin s.rank → ℕ) (size : Fin s.rank → ℕ)
    (inb : ∀ a, off a + size a ≤ s.size a) (h : 0 < (Rect.unit off size inb).shape.numel)
    (k : ((Rect.unit off size inb).toLoadRect.shape.Idx → Elt F e) → P F) : P F :=
  .op (.load m (Rect.unit off size inb).toLoadRect (View.loadsAt_vmem h)) k

/-! ## The steps -/

/-- Rows of `x` number `i` in the order the kernel reads them: even places for the forward ring, odd ones
for the backward ring. -/
abbrev xoff (d0 : Dev nD) (i : Fin 64) : Fin 2 → ℕ := k0_off1 d0 (k0_off1_at i).1 (k0_off1_at i).2

/-- A stripe's store of a partial sum into slot `b`. -/
abbrev stAcc (sid : Fin 4) (b : Fin 2) (v : FVec F S1x1x128x2048 .f32) (k : P F) : P F :=
  .op (.store accM (accR sid b) v Finset.univ (View.stores_vmem_bits_univ h_S1x1x128x2048 rfl) (.inl rfl)) fun _ => k

abbrev ldAcc (sid : Fin 4) (b : Fin 2) (k : Vec F S1x1x128x2048 .f32 → P F) : P F :=
  .op (.load accM (accR sid b).toLoadRect (View.loadsAt_vmem h_S1x1x128x2048)) k

/-- Stripe `sid`'s transfer from slot `b` here to slot `b'` of the device it is sent to. -/
abbrev sendAcc (d0 : Dev nD) (sid : Fin 4) (b b' : Fin 2) (k : P F) : P F :=
  .op (.enqueueDma (slot sid b) (.remote (Dev.tc (toD sid d0)) (slot sid b') (.dma (sndS sid b))) (.dma (rcvS sid b'))
    ((View.wordExact_bits rfl).reshape _ _) ((View.wordExact_bits rfl).reshape _ _) ⟨⟨rfl, Or.inl rfl⟩, trivial⟩) fun _ => k

/-- The first stage of stripe `sid`: the product for the block that starts its way round here. -/
def seedP (d0 : Dev nD) (sid : Fin 4) (k : P F) : P F :=
  .op (.load xM (Rect.unit (s := S4096x128) (xoff d0 (Fin.ofNat 64 (sid.val % 2))) S128x128.size (k0_off1_inb d0 _)).toLoadRect (View.loadsAt_vmem h_S128x128)) fun v =>
  .op (.load wM (Rect.unit (s := S128x8192) ![0, colOf sid] S128x2048.size (inb_col sid)).toLoadRect (View.loadsAt_vmem h_S128x2048)) fun w =>
  ldAcc sid 0 fun _ =>
  stAcc sid 0 (k0_pay2 v w) <|
  sendAcc d0 sid 0 1 k

/-- The product of the block `i` with half `r` of the columns. -/
def chunkP (d0 : Dev nD) (s : ℕ) (r : Fin 2) (k : FVec F S128x4096 .f32 → P F) : P F :=
  .op (.load xM (Rect.unit (s := S4096x128) (xoff d0 (Fin.ofNat 64 (2 * s + r.val))) S128x128.size (k0_off1_inb d0 _)).toLoadRect (View.loadsAt_vmem h_S128x128)) fun v =>
  .op (.load wM (Rect.unit (s := S128x8192) ![0, 4096 * r.val] S128x4096.size (inb_half r)).toLoadRect (View.loadsAt_vmem h_S128x4096)) fun w =>
  k (k0_pay8 v w)

/-- The two waits that end a stripe's copy: for the block that came in, and for the one that went out. -/
def landP (sid : Fin 4) (b b' : Fin 2) (k : P F) : P F :=
  .op (.waitDma2 (rcvS sid b') (slot sid b) (slot sid b') ((View.wordExact_bits rfl).reshape _ _) ((View.wordExact_bits rfl).reshape _ _)) fun _ =>
  .op (.waitDma2 (sndS sid b) (slot sid b') (slot sid b) ((View.wordExact_bits rfl).reshape _ _) ((View.wordExact_bits rfl).reshape _ _)) fun _ => k

/-- What a stripe stores: what came in plus its part of the chunk. -/
def addP (sid : Fin 4) (c : FVec F S128x4096 .f32) (v : Vec F S1x1x128x2048 .f32) : FVec F S1x1x128x2048 .f32 :=
  if sid.val < 2 then k0_pay10 c v else k0_pay15 c v

/-- Stripe `sid` at a step from slot `b` to slot `b'`: end the copy, credit the sender, add, wait for credit,
send on. -/
def stripeP (d0 : Dev nD) (sid : Fin 4) (b b' : Fin 2) (c : FVec F S128x4096 .f32) (k : P F) : P F :=
  landP sid b b' <|
  .op (.semSignal (Dev.tc (fromD sid d0)) (crdS sid b) ((1 : ℕ) : ℤ)) fun _ =>
  ldAcc sid b' fun v =>
  ldAcc sid b' fun _ =>
  stAcc sid b' (addP sid c v) <|
  .op (.semWait (crdS sid b) ((1 : ℕ) : ℤ)) fun _ =>
  sendAcc d0 sid b' b k

/-- One step of the four stripes. -/
def stepP (d0 : Dev nD) (s : ℕ) (k : P F) : P F :=
  chunkP d0 s 0 fun c0 =>
  chunkP d0 s 1 fun c1 =>
  stripeP d0 0 (par (s + 1)) (par s) c0 <|
  stripeP d0 1 (par (s + 1)) (par s) c1 <|
  stripeP d0 2 (par (s + 1)) (par s) c0 <|
  stripeP d0 3 (par (s + 1)) (par s) c1 k

/-- `n` steps from step `s` on. -/
def stepsP (d0 : Dev nD) : ℕ → ℕ → P F → P F
  | 0, _, k => k
  | n + 1, s, k => stepP d0 s (stepsP d0 n (s + 1) k)

/-- The finished stripe, and its largest magnitude. -/
def outP (sid : Fin 4) (c : FVec F S128x4096 .f32) (v : Vec F S1x1x128x2048 .f32) : FVec F S128x2048 .f32 :=
  if sid.val < 2 then k0_pay228 c v else k0_pay232 c v
def amaxP (sid : Fin 4) (c : FVec F S128x4096 .f32) (v : Vec F S1x1x128x2048 .f32) : F .f32 :=
  if sid.val < 2 then k0_pay229 c v else k0_pay233 c v

/-- Stripe `sid` at the last step: end the copy, add, write the result's columns. -/
def finP (sid : Fin 4) (c : FVec F S128x4096 .f32) (k : F .f32 → P F) : P F :=
  landP sid 0 1 <|
  ldAcc sid 1 fun v =>
  .op (.load outM (Rect.unit (s := S128x8192) ![0, colOf sid] S128x2048.size (inb_col sid)).toLoadRect (View.loadsAt_vmem h_S128x2048)) fun _ =>
  .op (.store outM (Rect.unit (s := S128x8192) ![0, colOf sid] S128x2048.size (inb_col sid)) (outP sid c v) Finset.univ (View.stores_vmem_bits_univ h_S128x2048 rfl) (.inl rfl)) fun _ =>
  k (amaxP sid c v)

/-- This device's largest magnitude, from the four stripes'. -/
def amax4 (a0 a1 a2 a3 : F .f32) : F .f32 := Scalar.maximumf (Scalar.maximumf a0 a1) (Scalar.maximumf a2 a3)

/-- What is stored to send it, and to keep it. -/
def axPay (a : F .f32) : FVec F S8x128 .f32 := shapeCast S8x128 (broadcast S8x128 a) shapeCasts_S8x128_S8x128
def axrPay (a : F .f32) : FVec F S1x8x128 .f32 := shapeCast S1x8x128 (broadcast S8x128 a) shapeCasts_S8x128_S1x8x128

/-- The sends of the maximum to `n` devices from distance `o` on; then the waits for theirs; then the waits
for the sends. -/
def axSendP (d0 : Dev nD) : ℕ → ℕ → P F → P F
  | 0, _, k => k
  | n + 1, o, k =>
    .op (.enqueueDma axM (.remote (Dev.tc (axD (Fin.ofNat 32 o) d0)) (axslot (Fin.ofNat 32 o)) (.dma (axsS (Fin.ofNat 32 o)))) (.dma (axrS (Fin.ofNat 32 o)))
      (Memref.isWhole_whole _).wordExact ((View.wordExact_bits rfl).reshape _ _) ⟨⟨rfl, Or.inl rfl⟩, trivial⟩) fun _ =>
    axSendP d0 n (o + 1) k

def axRecvP : ℕ → ℕ → P F → P F
  | 0, _, k => k
  | n + 1, o, k =>
    .op (.waitDma2 (axrS (Fin.ofNat 32 o)) axM (axslot (Fin.ofNat 32 o)) (Memref.isWhole_whole _).wordExact ((View.wordExact_bits rfl).reshape _ _)) fun _ =>
    axRecvP n (o + 1) k

def axSentP : ℕ → ℕ → P F → P F
  | 0, _, k => k
  | n + 1, o, k =>
    .op (.waitDma2 (axsS (Fin.ofNat 32 o)) (axslot (Fin.ofNat 32 o)) axM ((View.wordExact_bits rfl).reshape _ _) (Memref.isWhole_whole _).wordExact) fun _ =>
    axSentP n (o + 1) k

/-- The exchange of the maxima and the quantisation. -/
def tailP (d0 : Dev nD) (a : F .f32) : P F :=
  .op (.load axM (Rect.unit (s := S8x128) ![0, 0] S8x128.size inb_S8x128_S8x128_0_0).toLoadRect (View.loadsAt_vmem h_S8x128)) fun _ =>
  .op (.store axM (Rect.unit (s := S8x128) ![0, 0] S8x128.size inb_S8x128_S8x128_0_0) (axPay a) Finset.univ (View.stores_vmem_bits_univ h_S8x128 rfl) (.inl rfl)) fun _ =>
  .op (.load axrM (axR 0).toLoadRect (View.loadsAt_vmem h_S1x8x128)) fun _ =>
  .op (.store axrM (axR 0) (axrPay a) Finset.univ (View.stores_vmem_bits_univ h_S1x8x128 rfl) (.inl rfl)) fun _ =>
  axSendP d0 31 1 <|
  axRecvP 31 1 <|
  .op (.load axrM (Rect.unit (s := S32x8x128) ![0, 0, 0] S32x8x128.size inb_S32x8x128_S32x8x128_0_0_0).toLoadRect (View.loadsAt_vmem h_S32x8x128)) fun ax =>
  axSentP 31 1 <|
  .op (.load outM (Rect.unit (s := S128x8192) ![0, 0] S128x8192.size inb_S128x8192_S128x8192_0_0).toLoadRect (View.loadsAt_vmem h_S128x8192)) fun y =>
  .op (.load outM (Rect.unit (s := S128x8192) ![0, 0] S128x8192.size inb_S128x8192_S128x8192_0_0).toLoadRect (View.loadsAt_vmem h_S128x8192)) fun _ =>
  .op (.store outM (Rect.unit (s := S128x8192) ![0, 0] S128x8192.size inb_S128x8192_S128x8192_0_0) (k0_pay1 (k0_pay239 (k0_pay238 ax)) (k0_pay240 (k0_pay238 ax) y)) Finset.univ (View.stores_vmem_bits_univ h_S128x8192 rfl) (.inl rfl)) fun _ =>
  .ret ⟨⟩

/-- The last step of the ring, on to the exchange of the maxima. -/
def lastP (d0 : Dev nD) : P F :=
  chunkP d0 31 0 fun c0 =>
  chunkP d0 31 1 fun c1 =>
  finP 0 c0 fun a0 => finP 1 c1 fun a1 => finP 2 c0 fun a2 => finP 3 c1 fun a3 =>
  tailP d0 (amax4 a0 a1 a2 a3)

/-- The barrier with the two neighbours. -/
def barP (d0 : Dev nD) (k : P F) : P F :=
  .op (.semSignal (Dev.tc (bwdD d0)) barS ((1 : ℕ) : ℤ)) fun _ =>
  .op (.semSignal (Dev.tc (fwdD d0)) barS ((1 : ℕ) : ℤ)) fun _ =>
  .op (.semWait barS ((2 : ℕ) : ℤ)) fun _ => k

/-- The whole body. -/
def bodyP : P F :=
  .op .deviceId fun d0 =>
  barP d0 <|
  seedP d0 0 <| seedP d0 1 <| seedP d0 2 <| seedP d0 3 <|
  stepsP d0 30 1 <|
  lastP d0

set_option maxRecDepth 100000 in
set_option maxHeartbeats 4000000 in
/-- The printed body is these steps in turn. -/
theorem body_eq : (cc0_body xM (Memref.isWhole_whole _) wM (Memref.isWhole_whole _) outM (Memref.isWhole_whole _)
    accM (Memref.isWhole_whole _) cc0_scratch1 cc0_scratch2 cc0_scratch3 axM (Memref.isWhole_whole _)
    axrM (Memref.isWhole_whole _) cc0_scratch6 cc0_scratch7 : P F) = bodyP := rfl

end Cert.Ring
-- ==== Proof.Proto.lean ====
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

/-!
# The protocol of the ring

The semaphores as one indexed family, the values that travel, and the rounds each semaphore goes through:
copy `s` of stripe `sid` (`s = 1 … 31`) goes from slot `(s - 1) % 2` of its sender to slot `s % 2` of its
receiver, and the receiver's credit of step `s` lets the sender make copy `s + 1`.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring of devices -/

theorem fwd_bwd (c : Dev nD) : fwdD (bwdD c) = c := by revert c; decide +kernel
theorem bwd_fwd (c : Dev nD) : bwdD (fwdD c) = c := by revert c; decide +kernel
theorem to_from (sid : Fin 4) (c : Dev nD) : toD sid (fromD sid c) = c := by
  unfold toD fromD; split
  · exact fwd_bwd c
  · exact bwd_fwd c
theorem from_to (sid : Fin 4) (c : Dev nD) : fromD sid (toD sid c) = c := by
  unfold toD fromD; split
  · exact bwd_fwd c
  · exact fwd_bwd c

/-- The device `n` places behind. -/
def back : ℕ → Dev nD → Dev nD
  | 0, c => c
  | n + 1, c => back n (bwdD c)

theorem back_succ (n : ℕ) (c : Dev nD) : back (n + 1) c = back n (bwdD c) := rfl

/-- How far ahead of `v` in the mesh `t` lies: the slot of `t`'s buffer of maxima that `v` writes. -/
def gap (v t : Dev nD) : Fin 32 := ⟨(t.val + 32 - v.val) % 32, Nat.mod_lt _ (by decide)⟩

theorem axD_gap (o : Fin 32) (c : Dev nD) : gap c (axD o c) = o := by revert o c; decide +kernel

/-- The device that writes slot `o` of `c`'s buffer of maxima. -/
def axFrom (o : Fin 32) (c : Dev nD) : Dev nD := ⟨(c.val + 32 - o.val) % 32, Nat.mod_lt _ (by decide)⟩

theorem axFrom_axD (o : Fin 32) (c : Dev nD) : axFrom o (axD o c) = c := by revert o c; decide +kernel
theorem axD_axFrom (o : Fin 32) (c : Dev nD) : axD o (axFrom o c) = c := by revert o c; decide +kernel

theorem par_two (s : ℕ) : par (s + 2) = par s := Fin.ext (by simp [par])

/-! ## The semaphores -/

/-- The kernel's own semaphores: per stripe and slot the send, receive and credit semaphores; per distance the
send and receive semaphores of the maxima. -/
inductive OC
  | snd (sid : Fin 4) (b : Fin 2)
  | rcv (sid : Fin 4) (b : Fin 2)
  | crd (sid : Fin 4) (b : Fin 2)
  | axs (o : Fin 32)
  | axr (o : Fin 32)
  deriving DecidableEq

/-- The semaphores as a sum of the five kinds. -/
def ocEquiv : OC ≃ ((Fin 4 × Fin 2) ⊕ (Fin 4 × Fin 2) ⊕ (Fin 4 × Fin 2) ⊕ Fin 32 ⊕ Fin 32) where
  toFun
    | .snd sid b => .inl (sid, b)
    | .rcv sid b => .inr (.inl (sid, b))
    | .crd sid b => .inr (.inr (.inl (sid, b)))
    | .axs o => .inr (.inr (.inr (.inl o)))
    | .axr o => .inr (.inr (.inr (.inr o)))
  invFun
    | .inl p => .snd p.1 p.2
    | .inr (.inl p) => .rcv p.1 p.2
    | .inr (.inr (.inl p)) => .crd p.1 p.2
    | .inr (.inr (.inr (.inl o))) => .axs o
    | .inr (.inr (.inr (.inr o))) => .axr o
  left_inv k := by cases k <;> rfl
  right_inv x := by rcases x with _ | _ | _ | _ | _ <;> rfl

instance : Fintype OC := Fintype.ofEquiv _ ocEquiv.symm

abbrev osem : OC → SemLoc sig
  | .snd sid b => .dma (sndS sid b)
  | .rcv sid b => .dma (rcvS sid b)
  | .crd sid b => .reg (crdS sid b)
  | .axs o => .dma (axsS o)
  | .axr o => .dma (axrS o)

/-- With the barrier semaphore. -/
abbrev KC := Option OC
abbrev csem : KC → SemLoc sig
  | none => .reg barS
  | some k => osem k

set_option maxRecDepth 100000 in
theorem csem_injective : Function.Injective csem := by
  unfold Function.Injective; decide +kernel

abbrev kcell (c : Dev nD) (k : KC) : GSem nD τ sig := ((c : Thread nD τ), csem k)

/-- Which of the semaphores a cell is. -/
def kindOf (g : GSem nD τ sig) : Option KC :=
  if g.1.2 = .tc then Function.partialInv csem g.2 else none

theorem kindOf_kcell (c : Dev nD) (k : KC) : kindOf (kcell c k) = some k := by
  unfold kindOf; rw [if_pos rfl]; exact Function.partialInv_left csem_injective k

/-- What one copy of a stripe, and one copy of a maximum, counts on its semaphores. -/
def N : ℕ := (slot 0 0).view.dmaCredit
def N' : ℕ := (axslot 0).view.dmaCredit
theorem slot_credit (sid : Fin 4) (b : Fin 2) : (slot sid b).view.dmaCredit = N := rfl
theorem axslot_credit (o : Fin 32) : (axslot o).view.dmaCredit = N' := rfl
theorem axM_credit : (axM : Memref sig .tc .vmem S8x128 .f32).view.dmaCredit = N' := rfl
theorem N_pos : 0 < N := View.dmaCredit_pos _ (by decide)
theorem N'_pos : 0 < N' := View.dmaCredit_pos _ (by decide)

/-! ## The values -/

section Values
variable (m : (ℓ : Loc nD τ sig) → Buf (Elt F) ℓ)

/-- The arguments as staged on device `c`. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- Block number `i` of `x`'s rows, in the order device `c` reads them. -/
def xat (c : Dev nD) (i : Fin 64) : Vec F S128x128 .f32 :=
  xM.view.readAt (Elt F) (Rect.unit (s := S4096x128) (xoff c i) S128x128.size (k0_off1_inb c _)).toLoadRect (xstg m c)
/-- The columns of `w` of a stripe, and of half the result. -/
def wcol (c : Dev nD) (sid : Fin 4) : Vec F S128x2048 .f32 :=
  wM.view.readAt (Elt F) (Rect.unit (s := S128x8192) ![0, colOf sid] S128x2048.size (inb_col sid)).toLoadRect (wstg m c)
def whalf (c : Dev nD) (r : Fin 2) : Vec F S128x4096 .f32 :=
  wM.view.readAt (Elt F) (Rect.unit (s := S128x8192) ![0, 4096 * r.val] S128x4096.size (inb_half r)).toLoadRect (wstg m c)

/-- The product of half `r` at step `s`. -/
def chunk (c : Dev nD) (s : ℕ) (r : Fin 2) : FVec F S128x4096 .f32 :=
  k0_pay8 (xat m c (Fin.ofNat 64 (2 * s + r.val))) (whalf m c r)

/-- The half of the columns stripe `sid` lies in. -/
def half (sid : Fin 4) : Fin 2 := ⟨sid.val % 2, Nat.mod_lt _ (by decide)⟩

/-- The partial sum of stripe `sid` that device `c` sends as copy `n + 1`. -/
def part (sid : Fin 4) : ℕ → Dev nD → FVec F S1x1x128x2048 .f32
  | 0, c => k0_pay2 (xat m c (Fin.ofNat 64 (sid.val % 2))) (wcol m c sid)
  | n + 1, c => addP sid (chunk m c (n + 1) (half sid)) (part sid n (fromD sid c))

/-- The finished stripe on device `c`, and the largest magnitude there. -/
def outv (c : Dev nD) (sid : Fin 4) : FVec F S128x2048 .f32 :=
  outP sid (chunk m c 31 (half sid)) (part m sid 30 (fromD sid c))
def amx (c : Dev nD) (sid : Fin 4) : F .f32 :=
  amaxP sid (chunk m c 31 (half sid)) (part m sid 30 (fromD sid c))
def amax (c : Dev nD) : F .f32 := amax4 (amx m c 0) (amx m c 1) (amx m c 2) (amx m c 3)

end Values

/-! ## Holding slots -/

/-- Slot `b` of stripe `sid` on device `c`, with any contents; and holding `v`. -/
def free (c : Dev nD) (sid : Fin 4) (b : Fin 2) : sProp 𝕄 :=
  iprop(∃ f : Buf (Elt F) ((slot sid b).view.loc (c : Thread nD τ)), (slot sid b).view.loc (c : Thread nD τ) ↦[(slot sid b).view.set]{fullShare} f)
def held (c : Dev nD) (sid : Fin 4) (b : Fin 2) (v : Vec F S1x1x128x2048 .f32) : sProp 𝕄 :=
  iprop(∃ f : Buf (Elt F) ((slot sid b).view.loc (c : Thread nD τ)), ⌜(accM.access (accR sid b)).read (Elt F) f = v⌝
    ∗ (slot sid b).view.loc (c : Thread nD τ) ↦[(slot sid b).view.set]{fullShare} f)

/-- Slot `o` of the buffer of maxima on device `c`, with any contents; and holding `a` everywhere. -/
def axfree (c : Dev nD) (o : Fin 32) : sProp 𝕄 :=
  iprop(∃ f : Buf (Elt F) ((axslot o).view.loc (c : Thread nD τ)), (axslot o).view.loc (c : Thread nD τ) ↦[(axslot o).view.set]{fullShare} f)
def axheld (c : Dev nD) (o : Fin 32) (v : S1x8x128.Idx → F .f32) : sProp 𝕄 :=
  iprop(∃ f : Buf (Elt F) ((axslot o).view.loc (c : Thread nD τ)), ⌜(axrM.access (axR o)).read (Elt F) f = v⌝
    ∗ (axslot o).view.loc (c : Thread nD τ) ↦[(axslot o).view.set]{fullShare} f)
/-- The buffer a maximum is sent from, at a share. -/
def axsrc (c : Dev nD) (q : PosShare TreeShare) (v : S8x128.Idx → F .f32) : sProp 𝕄 :=
  axM.view.loc (c : Thread nD τ) ↦[axM.view.set]{q} v

omit [FloatOps F] in
instance free_storable (c : Dev nD) (sid b) : BI.Storable (upEmb : UEmb _ 𝕄) (free (F := F) c sid b) := by unfold free; infer_instance
omit [FloatOps F] in
instance held_storable (c : Dev nD) (sid b v) : BI.Storable (upEmb : UEmb _ 𝕄) (held (F := F) c sid b v) := by unfold held; infer_instance
omit [FloatOps F] in
instance axfree_storable (c : Dev nD) (o) : BI.Storable (upEmb : UEmb _ 𝕄) (axfree (F := F) c o) := by unfold axfree; infer_instance
omit [FloatOps F] in
instance axheld_storable (c : Dev nD) (o v) : BI.Storable (upEmb : UEmb _ 𝕄) (axheld (F := F) c o v) := by unfold axheld; infer_instance
omit [FloatOps F] in
instance axsrc_storable (c : Dev nD) (q v) : BI.Storable (upEmb : UEmb _ 𝕄) (axsrc (F := F) c q v) := by unfold axsrc; infer_instance

/-- The slots for the maxima that travel with the forward ring: by step `s` device `c` has received the slots of
the `s` devices behind it that device `v` writes. -/
def gath : ℕ → Dev nD → Dev nD → sProp 𝕄
  | 0, _, _ => iprop(emp)
  | s + 1, c, v => iprop(axfree (bwdD c) (gap v (bwdD c)) ∗ gath s (bwdD c) v)

omit [FloatOps F] in
instance gath_storable : ∀ (s : ℕ) (c v : Dev nD), BI.Storable (upEmb : UEmb _ 𝕄) (gath (F := F) s c v)
  | 0, _, _ => by unfold gath; infer_instance
  | s + 1, c, v => by unfold gath; have := gath_storable s (bwdD c) v; infer_instance

/-- What copy `s` of a stripe carries of them, and what device `c` adds of its own. -/
def extra (sid : Fin 4) (s : ℕ) (c : Dev nD) : sProp 𝕄 := if sid = 0 then gath s c (back (s + 1) c) else iprop(emp)
def ownx (sid : Fin 4) (s : ℕ) (c : Dev nD) : sProp 𝕄 :=
  if sid = 0 then axfree c (gap (back (s + 1) c) c) else iprop(emp)

omit [FloatOps F] in
instance extra_storable (sid s c) : BI.Storable (upEmb : UEmb _ 𝕄) (extra (F := F) sid s c) := by
  unfold extra; split <;> infer_instance

/-! ## The schedule -/

section Sched
variable (m : (ℓ : Loc nD τ sig) → Buf (Elt F) ℓ)

/-- What copy `s` brings: the slot with the sender's partial sum, that the sender waits for the next credit, and
slots of the buffers of maxima. -/
def rcvPay (c : Dev nD) (sid : Fin 4) (s : ℕ) : sProp 𝕄 :=
  iprop(held c sid (par s) (part m sid (s - 1) (fromD sid c)) ∗ reached ER (kcell (fromD sid c) (some (.crd sid (par (s + 1))))) ((s - 1) / 2)
    ∗ extra sid s c)
/-- What the credit of step `s` brings: the receiver's slot for copy `s + 1`, and that the receiver waits for it. -/
def crdPay (c : Dev nD) (sid : Fin 4) (s : ℕ) : sProp 𝕄 :=
  iprop(free (toD sid c) sid (par (s + 1)) ∗ reached ER (kcell (toD sid c) (some (.rcv sid (par (s + 1))))) (s / 2))
/-- The barrier's two signals bring the four first such slots. -/
def barPay (c : Dev nD) (d : Bool) : sProp 𝕄 :=
  if d then iprop(crdPay c 1 0 ∗ crdPay c 3 0) else iprop(crdPay c 0 0 ∗ crdPay c 2 0)

omit [FloatOps F] in
instance crdPay_storable (c sid s) : BI.Storable (upEmb : UEmb _ 𝕄) (crdPay (F := F) c sid s) := by unfold crdPay; infer_instance
omit [FloatOps F] in
instance barPay_storable (c d) : BI.Storable (upEmb : UEmb _ 𝕄) (barPay (F := F) c d) := by unfold barPay; split <;> infer_instance
instance rcvPay_storable (c sid s) : BI.Storable (upEmb : UEmb _ 𝕄) (rcvPay m c sid s) := by unfold rcvPay; infer_instance

/-- Whether round `r` of a semaphore is used. -/
def live : OC → ℕ → Prop
  | .snd _ b, r => 2 * r + 1 + b.val ≤ 31
  | .rcv _ b, r => 2 * r + 2 - b.val ≤ 31
  | .crd _ b, r => 2 * r + 1 + b.val ≤ 30
  | .axs o, r => r = 0 ∧ o ≠ 0
  | .axr o, r => r = 0 ∧ o ≠ 0

instance : ∀ k r, Decidable (live k r) := fun k r => by cases k <;> unfold live <;> infer_instance

def dutiesK : KC → ℕ → Finset Bool
  | none, r => if r = 0 then Finset.univ else ∅
  | some k, r => if live k r then {false} else ∅

def amountK : KC → ℕ
  | none => 1
  | some (.snd _ _) => N
  | some (.rcv _ _) => N
  | some (.crd _ _) => 1
  | some (.axs _) => N'
  | some (.axr _) => N'

theorem amountK_pos (k : KC) : 0 < amountK k := by
  rcases k with _ | (_ | _ | _ | _ | _)
  exacts [Nat.one_pos, N_pos, N_pos, Nat.one_pos, N'_pos, N'_pos]

def payK (c : Dev nD) : KC → ℕ → Bool → sProp 𝕄
  | none, _, d => barPay c d
  | some (.snd sid b), _, _ => free c sid b
  | some (.rcv sid b), r, _ => rcvPay m c sid (2 * r + 2 - b.val)
  | some (.crd sid b), r, _ => crdPay c sid (2 * r + 1 + b.val)
  | some (.axs o), _, _ => axsrc c (Transfers.shareTokN fullShare o.val) (axPay (amax m c))
  | some (.axr o), _, _ => axheld c o (axrPay (amax m (axFrom o c)))

def ringRd : Rounds.Schedule (GSem nD τ sig) Bool 𝕄 where
  duties g r := match kindOf g with | some k => dutiesK k r | none => ∅
  unitless _ := False
  amount g _ _ := match kindOf g with | some k => amountK k | none => 1
  payload g r d := match kindOf g with | some k => payK m g.1.1 k r d | none => iprop(emp)
  amount_pos g _ _ _ := by
    cases kindOf g
    · exact Nat.one_pos
    · exact amountK_pos _

instance ringRd_payload_storable (g : GSem nD τ sig) (r : ℕ) (d : Bool) :
    BI.Storable (upEmb : UEmb _ 𝕄) ((ringRd (F := F) m).payload g r d) := by
  show BI.Storable upEmb (match kindOf g with | some k => payK m g.1.1 k r d | none => iprop(emp))
  rcases kindOf g with _ | _ | (_ | _ | _ | _ | _) <;> dsimp only <;> (try unfold payK) <;> (try dsimp only) <;> infer_instance

theorem duties_eq (c : Dev nD) (k : KC) (r : ℕ) : (ringRd (F := F) m).duties (kcell c k) r = dutiesK k r := by
  dsimp only [ringRd]; rw [kindOf_kcell]
theorem amount_eq (c : Dev nD) (k : KC) (r : ℕ) (d : Bool) : (ringRd (F := F) m).amount (kcell c k) r d = amountK k := by
  dsimp only [ringRd]; rw [kindOf_kcell]
theorem payload_eq (c : Dev nD) (k : KC) (r : ℕ) (d : Bool) : (ringRd (F := F) m).payload (kcell c k) r d = payK m c k r d := by
  dsimp only [ringRd]; rw [kindOf_kcell]

theorem duties_some (c : Dev nD) {k : OC} {r : ℕ} (h : live k r) : (ringRd (F := F) m).duties (kcell c (some k)) r = {false} := by
  rw [duties_eq]; exact if_pos h
theorem mem_duties (c : Dev nD) {k : OC} {r : ℕ} (h : live k r) : false ∈ (ringRd (F := F) m).duties (kcell c (some k)) r := by
  rw [duties_some m c h]; exact Finset.mem_singleton_self _
theorem mem_duties_bar (c : Dev nD) (d : Bool) : d ∈ (ringRd (F := F) m).duties (kcell c none) 0 := by
  rw [duties_eq]; exact Finset.mem_univ _
theorem expect_some (c : Dev nD) {k : OC} {r : ℕ} (h : live k r) : (ringRd (F := F) m).expect (kcell c (some k)) r = amountK (some k) := by
  unfold Schedule.expect Schedule.amountOf; rw [duties_some m c h, Finset.sum_singleton, amount_eq]
theorem expect_bar (c : Dev nD) : (ringRd (F := F) m).expect (kcell c none) 0 = 2 := by
  unfold Schedule.expect Schedule.amountOf
  rw [duties_eq, Finset.sum_congr rfl fun d _ => amount_eq m c none 0 d]
  rfl
theorem rest_some (c : Dev nD) {k : OC} {r : ℕ} (h : live k r) :
    bigSep ((ringRd (F := F) m).duties (kcell c (some k)) r \ ∅) (fun d => (ringRd (F := F) m).payload (kcell c (some k)) r d)
      = payK m c (some k) r false := by
  rw [Finset.sdiff_empty, duties_some m c h, bigSep_singleton, payload_eq]
theorem rest_bar (c : Dev nD) :
    bigSep ((ringRd (F := F) m).duties (kcell c none) 0 \ ∅) (fun d => (ringRd (F := F) m).payload (kcell c none) 0 d)
      = iprop(barPay c false ∗ barPay c true) := by
  rw [Finset.sdiff_empty, duties_eq, show dutiesK none 0 = Finset.univ from rfl,
    bigSep_univ_eq_bigSepL [false, true] (by decide) (by decide), bigSepL_cons_cons, bigSepL_singleton, payload_eq, payload_eq]
  rfl
/-- No round after the last is used. -/
theorem duties_later (c : Dev nD) (k : KC) : ∀ r, 16 ≤ r → (ringRd (F := F) m).duties (kcell c k) r = ∅ := by
  intro r hr
  rw [duties_eq]
  rcases k with _ | (⟨sid, b⟩ | ⟨sid, b⟩ | ⟨sid, b⟩ | o | o)
  · exact if_neg (by omega)
  all_goals exact if_neg (by simp only [live]; omega)
end Sched

/-! ## The order in which devices wait -/

/-- The indices a cell's counts carry, and where each stands in the order of waiting. -/
def L (g : GSem nD τ sig) : Finset ℕ := if g.1.2 = .tc then Finset.range 64 else ∅
def lvK : KC → ℕ → ℕ
  | none, _ => 1
  | some (.snd _ _), _ => 0
  | some (.rcv _ b), r => 10 * (2 * r + 2 - b.val)
  | some (.crd sid b), r => 10 * (2 * r + 1 + b.val) + 1 + sid.val
  | some (.axs _), _ => 0
  | some (.axr _), _ => 1000
def lv (g : GSem nD τ sig) (r : ℕ) : ℕ := match kindOf g with | some k => lvK k r | none => 0

theorem L_tc (c : Dev nD) (sm : SemLoc sig) : L ((c : Thread nD τ), sm) = Finset.range 64 := if_pos rfl
theorem L_of_ne (g : GSem nD τ sig) (h : g.1.2 ≠ .tc) : L g = ∅ := if_neg h
theorem lv_kcell (c : Dev nD) (k : KC) (r : ℕ) : lv (kcell c k) r = lvK k r := by unfold lv; rw [kindOf_kcell]

/-- Everything owed in `O` stands above `w` in that order. -/
def Above (w : ℕ) (O : CellTallies nD τ sig ℕ) : Prop := ∀ g i, 0 < O g i → i ∈ L g ∧ w < lv g i

theorem Above.zero (w : ℕ) : Above w 0 := fun g i h => absurd h (Nat.lt_irrefl 0)
theorem Above.add {w : ℕ} {O O' : CellTallies nD τ sig ℕ} (h : Above w O) (h' : Above w O') : Above w (O + O') := by
  intro g i hg
  rw [Pi.add_apply, Finsupp.add_apply] at hg
  rcases Nat.eq_zero_or_pos (O g i) with h0 | h0
  · exact h' g i (by omega)
  · exact h g i h0
theorem Above.tally {w : ℕ} (c : Dev nD) (k : KC) (r n : ℕ) (hr : r < 64) (hw : w < lvK k r) :
    Above w (tallyAt (kcell c k) r n) := by
  intro g i hg
  rw [tallyAt_apply] at hg
  by_cases h : g = kcell c k ∧ i = r
  · rw [h.1, h.2, L_tc, lv_kcell]; exact ⟨Finset.mem_range.mpr hr, hw⟩
  · rw [if_neg h] at hg; exact absurd hg (Nat.lt_irrefl 0)
theorem Above.mono {w w' : ℕ} {O : CellTallies nD τ sig ℕ} (h : Above w O) (hw : w' ≤ w) : Above w' O :=
  fun g i hg => ⟨(h g i hg).1, lt_of_le_of_lt hw (h g i hg).2⟩

/-- The order of waiting, as an assertion. -/
@[irreducible] def levs (F : FTy → Type) : sProp (MT nD τ sig ℕ (Elt F) ℕ UU ℕ) := levAts L lv

omit [FloatOps F] in
instance levs_persistent : BI.Persistent (levs F) := by unfold levs; infer_instance

omit [FloatOps F] in
theorem mayWait {w : ℕ} {O : CellTallies nD τ sig ℕ} (hO : Above w O) (c : Dev nD) (sm : SemLoc sig) (i : ℕ) (hi : i < 64)
    (hl : lv ((c : Thread nD τ), sm) i ≤ w) :
    levs F ⊢ MayWait (c : Thread nD τ) sm i O := by
  unfold levs
  exact MayOwe.of_cut (L := L) (lev := lv) w
    (fun p hp => by rw [Finset.mem_singleton.mp hp, L_tc]; exact Finset.mem_range.mpr hi)
    (fun g u hg => (hO g u hg).1)
    (fun p hp => by rw [Finset.mem_singleton.mp hp]; exact hl)
    (fun g u hg => (hO g u hg).2)

end Cert.Ring
-- ==== Proof.Ring.lean ====
module

public import proofs.«01_k».proof.Proof.Proto

/-!
# One step of one stripe

The rule for a step of a stripe, over the stripe, the step and the device, and from it the rule for all the
steps of all stripes.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

/-- The weakest precondition of a program of device `c`. -/
abbrev WP (c : Dev nD) (p : P F) (Q : PUnit.{1} → sProp 𝕄) : sProp 𝕄 :=
  wp frame (wpE (defs₀ (F := F)) 𝒱₀ (c : Thread nD τ) none) Set.univ p Q

/-! ## Slots -/

section Slots
variable (c : Dev nD) (sid : Fin 4) (b b' : Fin 2)

theorem slot_set : (slot sid b).view.set = (accM.access (accR sid b)).set := View.set_reshape _ _

theorem access_subset : (accM.access (accR sid b)).set ⊆ (slot sid b).view.set := (slot_set sid b).symm.subset
theorem access_subset_on : (accM.access (accR sid b)).setOn Finset.univ ⊆ (slot sid b).view.set := access_subset sid b

theorem slot_moved (fs fd : (cc0_scratch0 : Ref sig .tc).ty.Contents (Elt F)) :
    (accM.access (accR sid b')).read (Elt F) ((slot sid b').view.write (Elt F) fd ((slot sid b).view.read (Elt F) fs) Finset.univ)
      = (accM.access (accR sid b)).read (Elt F) fs := by
  funext x
  obtain ⟨y, rfl⟩ := (Shape.reshapeEquiv (squeezes_S1x1x128x2048_S128x2048).numel_eq).surjective x
  show (slot sid b').view.read (Elt F) ((slot sid b').view.write (Elt F) fd ((slot sid b).view.read (Elt F) fs) Finset.univ) y
    = (slot sid b).view.read (Elt F) fs y
  rw [View.read_write_univ]

theorem axslot_set (o : Fin 32) : (axslot o).view.set = (axrM.access (axR o)).set := View.set_reshape _ _

theorem wp_ldAcc {Q : PUnit.{1} → sProp 𝕄} (v : Vec F S1x1x128x2048 .f32) (k : Vec F S1x1x128x2048 .f32 → P F) :
    held c sid b v ⊢ iprop((held c sid b v -∗ WP c (k v) Q) -∗ WP c (ldAcc sid b k) Q) := by
  unfold held
  iintro ⟨%f, %hf, H⟩ Hk
  iapply (wp_load_rect 𝒱₀ (c : Thread nD τ) none Set.univ (m := accM) (r := accR sid b) (S := (slot sid b).view.set) (access_subset sid b)) $$ H; iintro H
  rw [hf]
  iapply Hk
  iexists f
  isplitr; · ipureintro; exact hf
  iexact H

theorem wp_ldAcc_free {Q : PUnit.{1} → sProp 𝕄} (k : P F) :
    free c sid b ⊢ iprop((free c sid b -∗ WP c k Q) -∗ WP c (ldAcc sid b fun _ => k) Q) := by
  unfold free
  iintro ⟨%f, H⟩ Hk
  iapply (wp_load_rect 𝒱₀ (c : Thread nD τ) none Set.univ (m := accM) (r := accR sid b) (S := (slot sid b).view.set) (access_subset sid b)) $$ H; iintro H
  iapply Hk
  iexists f
  iexact H

theorem held_free (v : Vec F S1x1x128x2048 .f32) : (held c sid b v : sProp 𝕄) ⊢ free c sid b := by
  unfold held free
  iintro ⟨%f, -, H⟩
  iexists f; iexact H

theorem wp_stAcc {Q : PUnit.{1} → sProp 𝕄} (v : FVec F S1x1x128x2048 .f32) (k : P F) :
    free c sid b ⊢ iprop((held c sid b v -∗ WP c k Q) -∗ WP c (stAcc sid b v k) Q) := by
  unfold free held
  iintro ⟨%f, H⟩ Hk
  iapply (wp_store 𝒱₀ (c : Thread nD τ) none Set.univ (m := accM) (r := accR sid b) (Mk := Finset.univ) (S := (slot sid b).view.set)
    (access_subset_on sid b)) $$ H; iintro H
  iapply Hk
  iexists ((accM.access (accR sid b)).write (Elt F) f v Finset.univ)
  isplitr; · ipureintro; exact View.read_write_univ _ _
  iexact H

end Slots

/-! ## What every device knows -/

section Know
variable (m : (ℓ : Loc nD τ sig) → Buf (Elt F) ℓ) (K : Dev nD × KC → ℕ)

/-- The invariants of all cells, that each has reached its first round, and the order of waiting. -/
def know : sProp 𝕄 :=
  iprop(bigSep Finset.univ (fun ck : Dev nD × KC => cellInv ER (ringRd m) (K ck) (kcell ck.1 ck.2))
    ∗ bigSep Finset.univ (fun ck : Dev nD × KC => reached ER (kcell ck.1 ck.2) 0) ∗ levs F)

instance know_persistent : BI.Persistent (know m K) := by unfold know; infer_instance

theorem know_inv (c : Dev nD) (k : KC) : know m K ⊢ cellInv ER (ringRd m) (K (c, k)) (kcell c k) := by
  have h : bigSep Finset.univ (fun ck : Dev nD × KC => (cellInv ER (ringRd m) (K ck) (kcell ck.1 ck.2) : sProp 𝕄))
      ⊢ cellInv ER (ringRd m) (K (c, k)) (kcell c k) := bigSep_elim (Finset.mem_univ (c, k))
  unfold know
  iintro ⟨H, -, -⟩
  iapply h; iexact H

theorem know_reached (c : Dev nD) (k : KC) : know m K ⊢ reached ER (kcell c k) 0 := by
  have h : bigSep Finset.univ (fun ck : Dev nD × KC => (reached ER (kcell ck.1 ck.2) 0 : sProp 𝕄))
      ⊢ reached ER (kcell c k) 0 := bigSep_elim (Finset.mem_univ (c, k))
  unfold know
  iintro ⟨-, H, -⟩
  iapply h; iexact H

theorem know_lev : know m K ⊢ levs F := by
  unfold know
  iintro ⟨-, -, H⟩; iexact H

/-- What a device owes, whatever it has waited for. -/
def owe (c : Dev nD) (O : CellTallies nD τ sig ℕ) : sProp 𝕄 := iprop(∃ W, owes (c : Thread nD τ) O W)

/-- A wait for all of a round. -/
theorem wp_waitK (c : Dev nD) {k : OC} {r : ℕ} (hr : live k r) (hr' : r < 64) {w : ℕ} {O : CellTallies nD τ sig ℕ} (hO : Above w O)
    (hw : lvK (some k) r ≤ w) {op : TpuEff nD τ sig (Elt F) Λ₀ .tc PUnit}
    (hop : ∀ Kt : PUnit → sProp 𝕄, wpE (defs₀ (F := F)) 𝒱₀ (c : Thread nD τ) none Set.univ op Kt
      = waitSpec (c : Thread nD τ) Set.univ (osem k) (amountK (some k)) Kt)
    {p : P F} {Q : PUnit.{1} → sProp 𝕄} :
    iprop(know m K ∗ cred (tallyAt (kcell c (some k)) r (amountK (some k))) ∗ owe c O ∗ atPos ER (kcell c (some k)) r ∅ 0)
      ⊢ iprop(((owe c O ∗ atPos ER (kcell c (some k)) (r + 1) ∅ 0 ∗ reached ER (kcell c (some k)) (r + 1) ∗ payK m c (some k) r false)
          -∗ WP c p Q) -∗ WP c (.op op fun _ => p) Q) := by
  have hl : lv ((c : Thread nD τ), osem k) r ≤ w := by
    have h := lv_kcell c (some k) r
    exact h.le.trans hw
  have hmv : levs F ⊢ MayWait (c : Thread nD τ) (osem k) r O := mayWait hO c (osem k) r hr' hl
  have hmw : know m K ⊢ MayWait (c : Thread nD τ) (osem k) r O := (know_lev m K).trans hmv
  unfold owe
  iintro ⟨#HK, Hc, ⟨%W, HO⟩, Hat⟩ Hk
  iapply (Rounds.wp_wait_rest_token 𝒱₀ ER (ringRd m) (c : Thread nD τ) none (κ := K (c, some k)) hop (Set.mem_univ _) r (O := O) (W := W)
      (R := r) (m := 0) (T := ∅) ((Nat.zero_add _).trans (expect_some m c hr).symm)) $$ [Hc HO Hat]
  · isplitr; · iapply (know_inv m K c (some k)); iexact HK
    isplitl [Hc]; · iexact Hc
    isplitl [HO]; · iexact HO
    isplitr
    · iapply hmw; iexact HK
    iexact Hat
  iintro ⟨HO, Hat, Hr, Hpay⟩
  ihave Hp := (Entails.of_eq (rest_some m c hr)) $$ Hpay
  iapply Hk
  isplitl [HO]; · iexists _; iexact HO
  isplitl [Hat]; · iexact Hat
  isplitl [Hr]; · iexact Hr
  iexact Hp

/-! ## One copy of a stripe -/

theorem toD_zero (c : Dev nD) : toD 0 c = fwdD c := if_pos (Nat.zero_mod 2)

omit [FloatOps F] in
theorem gath_succ (s : ℕ) (c v : Dev nD) :
    (gath (s + 1) c v : sProp 𝕄) = iprop(axfree (bwdD c) (gap v (bwdD c)) ∗ gath s (bwdD c) v) := rfl

omit [FloatOps F] in
theorem extra_succ (sid : Fin 4) (s : ℕ) (c : Dev nD) :
    iprop(extra sid s c ∗ ownx sid s c) ⊢ (extra sid (s + 1) (toD sid c) : sProp 𝕄) := by
  unfold extra ownx
  by_cases h : sid = 0
  · subst h
    rw [if_pos rfl, if_pos rfl, if_pos rfl, toD_zero, gath_succ, back_succ (s + 1) (fwdD c), bwd_fwd]
    iintro ⟨H, H'⟩
    isplitl [H'] <;> iassumption
  · rw [if_neg h, if_neg h, if_neg h]
    iintro ⟨H, -⟩; iexact H

theorem pay_rcv (c : Dev nD) (sid : Fin 4) (s : ℕ) :
    payK m c (some (.rcv sid (par (s + 1)))) (s / 2) false = rcvPay m c sid (s + 1) := by
  show rcvPay m c sid (2 * (s / 2) + 2 - (s + 1) % 2) = _
  rw [show 2 * (s / 2) + 2 - (s + 1) % 2 = s + 1 by omega]

theorem pay_crd (c : Dev nD) (sid : Fin 4) (s : ℕ) :
    payK m c (some (.crd sid (par s))) (s / 2) false = crdPay c sid (s + 1) := by
  show crdPay c sid (2 * (s / 2) + 1 + s % 2) = _
  rw [show 2 * (s / 2) + 1 + s % 2 = s + 1 by omega]

theorem pay_snd (c : Dev nD) (sid : Fin 4) (b : Fin 2) (r : ℕ) : payK m c (some (.snd sid b)) r false = free c sid b := rfl

theorem live_rcv (sid : Fin 4) {s : ℕ} (hs : s ≤ 30) : live (.rcv sid (par (s + 1))) (s / 2) := by
  simp only [live, par]; omega
theorem live_snd (sid : Fin 4) {s : ℕ} (hs : s ≤ 30) : live (.snd sid (par s)) (s / 2) := by
  simp only [live, par]; omega
theorem live_crd (sid : Fin 4) {s : ℕ} (hs : s ≤ 29) : live (.crd sid (par s)) (s / 2) := by
  simp only [live, par]; omega

/-- Copy `s + 1` of a stripe. -/
theorem wp_sendAcc (c : Dev nD) (sid : Fin 4) {s : ℕ} (hs : s ≤ 30) {O₀ : CellTallies nD τ sig ℕ} (O : CellTallies nD τ sig ℕ)
    (hO : O₀ = O + tallyAt (kcell (toD sid c) (some (.rcv sid (par (s + 1))))) (s / 2) N) {k : P F} {Q : PUnit.{1} → sProp 𝕄} :
    iprop(know m K ∗ held c sid (par s) (part m sid s c) ∗ crdPay c sid s ∗ owe c O₀
        ∗ dutyTok ER (kcell c (some (.snd sid (par s)))) (s / 2) false ∗ reached ER (kcell c (some (.snd sid (par s)))) (s / 2)
        ∗ dutyTok ER (kcell (toD sid c) (some (.rcv sid (par (s + 1))))) (s / 2) false
        ∗ reached ER (kcell c (some (.crd sid (par s)))) (s / 2) ∗ extra sid s c ∗ ownx sid s c)
      ⊢ iprop(((cred (tallyAt (kcell c (some (.snd sid (par s)))) (s / 2) N) ∗ owe c O) -∗ WP c k Q)
          -∗ WP c (sendAcc c sid (par s) (par (s + 1)) k) Q) := by
  have hpay : ∀ (fs fd : (cc0_scratch0 : Ref sig .tc).ty.Contents (Elt F)), (accM.access (accR sid (par s))).read (Elt F) fs = part m sid s c →
      iprop(((slot sid (par (s + 1))).view.loc (toD sid c : Thread nD τ) ↦[(slot sid (par (s + 1))).view.set]{fullShare}
          ((slot sid (par (s + 1))).view.write (Elt F) fd ((slot sid (par s)).view.read (Elt F) fs) Finset.univ))
        ∗ (reached ER (kcell c (some (.crd sid (par s)))) (s / 2) ∗ extra sid s c ∗ ownx sid s c))
      ⊢ (ringRd (F := F) m).payload (kcell (toD sid c) (some (.rcv sid (par (s + 1))))) (s / 2) false := by
    intro fs fd hf
    rw [payload_eq, pay_rcv]
    unfold rcvPay held
    rw [from_to, par_two]
    iintro ⟨H, Hr, He, Ho⟩
    isplitl [H]
    · iexists _
      isplitr
      · ipureintro; exact (slot_moved sid (par s) (par (s + 1)) fs fd).trans hf
      iexact H
    isplitl [Hr]; · iexact Hr
    iapply (extra_succ sid s c)
    isplitl [He] <;> iassumption
  have hpay1 : ∀ (fs : (cc0_scratch0 : Ref sig .tc).ty.Contents (Elt F)),
      ((slot sid (par s)).view.loc (c : Thread nD τ) ↦[(slot sid (par s)).view.set]{fullShare} fs : sProp 𝕄)
      ⊢ (ringRd (F := F) m).payload (kcell c (some (.snd sid (par s)))) (s / 2) false := by
    intro fs
    rw [payload_eq]
    show _ ⊢ free c sid (par s)
    unfold free
    iintro H; iexists fs; iexact H
  unfold held crdPay free owe
  iintro ⟨#HK, ⟨%fs, %hf, Hs⟩, ⟨⟨%fd, Hd⟩, #HrV⟩, ⟨%W, HO⟩, HtS, #HrS, HtV, HrC, He, Hx⟩ Hk
  iapply (Rounds.wp_send_pointsTo_with 𝒱₀ ER (ringRd m) (c : Thread nD τ) none (κ₁ := K (c, some (.snd sid (par s))))
      (κ₂ := K (toD sid c, some (.rcv sid (par (s + 1))))) (c' := (toD sid c : Thread nD τ)) (src := slot sid (par s)) (dst := slot sid (par (s + 1)))
      (sS := .dma (sndS sid (par s))) (sem := .dma (rcvS sid (par (s + 1))))
      (r₁ := s / 2) (r₂ := s / 2) (d₁ := false) (d₂ := false) (fs := fs) (fd := fd) (q := fullShare)
      (mem_duties m c (live_snd sid hs)) (mem_duties m (toD sid c) (live_rcv sid hs))
      (s / 2) (s / 2) N (slot_credit sid (par (s + 1))) (amount_eq m c (some (.snd sid (par s))) _ _) (amount_eq m (toD sid c) (some (.rcv sid (par (s + 1)))) _ _) O hO (W := W)
      (hpay1 fs) (hpay fs fd hf)) $$ [Hs Hd HO HtS HtV HrC He Hx]
  · isplitr; · iapply (know_inv m K c (some (.snd sid (par s)))); iexact HK
    isplitr; · iapply (know_inv m K (toD sid c) (some (.rcv sid (par (s + 1))))); iexact HK
    isplitl [Hs]; · iexact Hs
    isplitl [Hd HrC He Hx]
    · isplitl [Hd]; · iexact Hd
      isplitl [HrC]; · iexact HrC
      isplitl [He] <;> iassumption
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexists W; iexact HO

/-- The two waits that end copy `s + 1`. -/
theorem wp_land (c : Dev nD) (sid : Fin 4) {s : ℕ} (hs : s ≤ 30) {w : ℕ} {O : CellTallies nD τ sig ℕ} (hO : Above w O) (hw : 10 * (s + 1) ≤ w)
    {k : P F} {Q : PUnit.{1} → sProp 𝕄} :
    iprop(know m K ∗ cred (tallyAt (kcell c (some (.rcv sid (par (s + 1))))) (s / 2) N) ∗ cred (tallyAt (kcell c (some (.snd sid (par s)))) (s / 2) N)
        ∗ atPos ER (kcell c (some (.rcv sid (par (s + 1))))) (s / 2) ∅ 0 ∗ atPos ER (kcell c (some (.snd sid (par s)))) (s / 2) ∅ 0 ∗ owe c O)
      ⊢ iprop(((rcvPay m c sid (s + 1) ∗ free c sid (par s)
            ∗ atPos ER (kcell c (some (.rcv sid (par (s + 1))))) (s / 2 + 1) ∅ 0 ∗ atPos ER (kcell c (some (.snd sid (par s)))) (s / 2 + 1) ∅ 0
            ∗ reached ER (kcell c (some (.rcv sid (par (s + 1))))) (s / 2 + 1) ∗ reached ER (kcell c (some (.snd sid (par s)))) (s / 2 + 1) ∗ owe c O)
          -∗ WP c k Q) -∗ WP c (landP sid (par s) (par (s + 1)) k) Q) := by
  iintro ⟨#HK, HcV, HcS, HatV, HatS, HO⟩ Hk
  unfold landP
  iapply (wp_waitK m K c (k := .rcv sid (par (s + 1))) (live_rcv sid hs) (by omega) hO
      (by show 10 * (2 * (s / 2) + 2 - (s + 1) % 2) ≤ w; omega)
      (op := .waitDma2 (rcvS sid (par (s + 1))) (slot sid (par s)) (slot sid (par (s + 1))) ((View.wordExact_bits rfl).reshape _ _) ((View.wordExact_bits rfl).reshape _ _))
      (wpE_waitDma2_eq 𝒱₀ (c : Thread nD τ) none Set.univ)) $$ [HcV HO HatV]
  · isplitr; · iexact HK
    isplitl [HcV]; · iexact HcV
    isplitl [HO] <;> iassumption
  iintro ⟨HO, HatV, HrV, Hp⟩
  iapply (wp_waitK m K c (k := .snd sid (par s)) (live_snd sid hs) (by omega) hO
      (Nat.zero_le w)
      (op := .waitDma2 (sndS sid (par s)) (slot sid (par (s + 1))) (slot sid (par s)) ((View.wordExact_bits rfl).reshape _ _) ((View.wordExact_bits rfl).reshape _ _))
      (wpE_waitDma2_eq 𝒱₀ (c : Thread nD τ) none Set.univ)) $$ [HcS HO HatS]
  · isplitr; · iexact HK
    isplitl [HcS]; · iexact HcS
    isplitl [HO] <;> iassumption
  iintro ⟨HO, HatS, HrS, Hf⟩
  ihave Hp' := (Entails.of_eq (pay_rcv m c sid s)) $$ Hp
  ihave Hf' := (Entails.of_eq (pay_snd m c sid (par s) (s / 2))) $$ Hf
  iapply Hk
  isplitl [Hp']; · iexact Hp'
  isplitl [Hf']; · iexact Hf'
  isplitl [HatV]; · iexact HatV
  isplitl [HatS]; · iexact HatS
  isplitl [HrV]; · iexact HrV
  isplitl [HrS]; · iexact HrS
  iexact HO

/-! ## One step -/

/-- Copy `s + 1` of a stripe in the air: the credit for its end, and where the six semaphores stand. -/
def flight (c : Dev nD) (sid : Fin 4) (s : ℕ) : sProp 𝕄 :=
  iprop(cred (tallyAt (kcell c (some (.snd sid (par s)))) (s / 2) N)
    ∗ atPos ER (kcell c (some (.rcv sid (par (s + 1))))) (s / 2) ∅ 0 ∗ atPos ER (kcell c (some (.rcv sid (par s)))) ((s + 1) / 2) ∅ 0
    ∗ atPos ER (kcell c (some (.snd sid (par s)))) (s / 2) ∅ 0 ∗ atPos ER (kcell c (some (.snd sid (par (s + 1))))) ((s + 1) / 2) ∅ 0
    ∗ atPos ER (kcell c (some (.crd sid (par s)))) (s / 2) ∅ 0 ∗ atPos ER (kcell c (some (.crd sid (par (s + 1))))) ((s + 1) / 2) ∅ 0
    ∗ reached ER (kcell c (some (.rcv sid (par s)))) ((s + 1) / 2) ∗ reached ER (kcell c (some (.snd sid (par (s + 1))))) ((s + 1) / 2)
    ∗ reached ER (kcell c (some (.crd sid (par (s + 1))))) ((s + 1) / 2))

/-- What step `s + 1` of a stripe uses up. -/
def stepTok (c : Dev nD) (sid : Fin 4) (s : ℕ) : sProp 𝕄 :=
  iprop(dutyTok ER (kcell (fromD sid c) (some (.crd sid (par s)))) (s / 2) false
    ∗ dutyTok ER (kcell (toD sid c) (some (.rcv sid (par s)))) ((s + 1) / 2) false
    ∗ dutyTok ER (kcell c (some (.snd sid (par (s + 1))))) ((s + 1) / 2) false
    ∗ cred (tallyAt (kcell c (some (.rcv sid (par (s + 1))))) (s / 2) N)
    ∗ cred (tallyAt (kcell c (some (.crd sid (par s)))) (s / 2) 1)
    ∗ ownx sid (s + 1) c)

/-- What step `s + 1` of a stripe pays, on top of `O`. -/
def stripeO (c : Dev nD) (sid : Fin 4) (s : ℕ) (O : CellTallies nD τ sig ℕ) : CellTallies nD τ sig ℕ :=
  O + tallyAt (kcell (toD sid c) (some (.rcv sid (par s)))) ((s + 1) / 2) N
    + tallyAt (kcell (fromD sid c) (some (.crd sid (par s)))) (s / 2) 1

theorem wp_stripe (c : Dev nD) (sid : Fin 4) {s : ℕ} (hs : s ≤ 29) {O : CellTallies nD τ sig ℕ} (hO : Above (10 * (s + 1) + 1 + sid.val) O)
    {k : P F} {Q : PUnit.{1} → sProp 𝕄} :
    iprop(know m K ∗ flight c sid s ∗ stepTok c sid s ∗ owe c (stripeO c sid s O))
      ⊢ iprop(((flight c sid (s + 1) ∗ owe c O) -∗ WP c k Q)
          -∗ WP c (stripeP c sid (par (s + 1 + 1)) (par (s + 1)) (chunk m c (s + 1) (half sid)) k) Q) := by
  have hsid := sid.isLt
  have hO1 : Above (10 * (s + 1) + 1 + sid.val) (O + tallyAt (kcell (toD sid c) (some (.rcv sid (par s)))) ((s + 1) / 2) N) :=
    hO.add (Above.tally _ _ _ _ (by omega) (by show _ < 10 * (2 * ((s + 1) / 2) + 2 - s % 2); omega))
  have hO2 : Above (10 * (s + 1)) (stripeO c sid s O) :=
    (hO1.mono (by omega)).add (Above.tally _ _ _ _ (by omega) (by show _ < 10 * (2 * (s / 2) + 1 + s % 2) + 1 + sid.val; omega))
  have hcr : (ringRd (F := F) m).payload (kcell (fromD sid c) (some (.crd sid (par s)))) (s / 2) false
      = iprop(free c sid (par s) ∗ reached ER (kcell c (some (.rcv sid (par s)))) ((s + 1) / 2)) := by
    rw [payload_eq, pay_crd]; unfold crdPay; rw [to_from, par_two]
  unfold stripeP
  rw [par_two]
  unfold flight stepTok
  iintro ⟨#HK, ⟨HcS, HatV, HatV', HatS, HatS', HatC, HatC', #HrV', #HrS', #HrC'⟩, ⟨HtC, HtV, HtS, HcV, HcC, Hx⟩, HO⟩ Hk
  iapply (wp_land m K c sid (s := s) (by omega) hO2 le_rfl) $$ [HcV HcS HatV HatS HO]
  · isplitr; · iexact HK
    isplitl [HcV]; · iexact HcV
    isplitl [HcS]; · iexact HcS
    isplitl [HatV]; · iexact HatV
    isplitl [HatS] <;> iassumption
  unfold rcvPay
  iintro ⟨⟨Hin, #HrCf, He⟩, Hfr, HatV, HatS, #HrV, #HrS, HO⟩
  unfold stripeO owe
  icases HO with ⟨%W, HO⟩
  rw [show (s + 1 - 1) = s from rfl, par_two]
  iapply (Rounds.wp_signal 𝒱₀ ER (ringRd m) (c : Thread nD τ) none (dst := (fromD sid c : Thread nD τ)) (sem := crdS sid (par s))
      (κ := K (fromD sid c, some (.crd sid (par s)))) (d := false) (r := s / 2)
      (mem_duties m (fromD sid c) (live_crd sid hs)) (amount_eq m (fromD sid c) (some (.crd sid (par s))) _ _) (s / 2)
      (O + tallyAt (kcell (toD sid c) (some (.rcv sid (par s)))) ((s + 1) / 2) N) rfl) $$ [HO HtC Hfr]
  · isplitr; · iapply (know_inv m K (fromD sid c) (some (.crd sid (par s)))); iexact HK
    isplitl [HO]; · iexact HO
    isplitl [HtC]; · iexact HtC
    isplitl [Hfr]
    · iapply (Entails.of_eq hcr.symm)
      isplitl [Hfr]; · iexact Hfr
      iexact HrV'
    iexact HrCf
  iintro HO
  iapply (wp_ldAcc c sid (par (s + 1))) $$ Hin; iintro Hin
  iapply (wp_ldAcc c sid (par (s + 1))) $$ Hin; iintro Hin
  ihave Hin := (held_free c sid (par (s + 1)) _) $$ Hin
  iapply (wp_stAcc c sid (par (s + 1))) $$ Hin; iintro Hin
  iapply (wp_waitK m K c (k := .crd sid (par s)) (r := s / 2) (live_crd sid hs) (by omega) hO1
      (by show 10 * (2 * (s / 2) + 1 + s % 2) + 1 + sid.val ≤ _; omega) (op := .semWait (crdS sid (par s)) ((1 : ℕ) : ℤ))
      (wpE_semWait_eq 𝒱₀ (c : Thread nD τ) none Set.univ)) $$ [HcC HO HatC]
  · isplitr; · iexact HK
    isplitl [HcC]; · iexact HcC
    isplitl [HO]
    · unfold owe; iexists W; iexact HO
    iexact HatC
  iintro ⟨HO, HatC, #HrC, Hp⟩
  ihave Hp := (Entails.of_eq (pay_crd m c sid s)) $$ Hp
  have hsend := wp_sendAcc m K c sid (s := s + 1) (by omega) O (O₀ := O + tallyAt (kcell (toD sid c) (some (.rcv sid (par s)))) ((s + 1) / 2) N)
      (by rw [par_two]) (k := k) (Q := Q)
  rw [par_two] at hsend
  iapply hsend $$ [Hin Hp HO HtS HtV He Hx]
  · isplitr; · iexact HK
    isplitl [Hin]; · iexact Hin
    isplitl [Hp]; · iexact Hp
    isplitl [HO]; · iexact HO
    isplitl [HtS]; · iexact HtS
    isplitr; · iexact HrS'
    isplitl [HtV]; · iexact HtV
    isplitr; · iexact HrC'
    isplitl [He] <;> iassumption
  iintro ⟨HcS, HO⟩
  iapply Hk
  rw [show (s + 1 + 1) / 2 = s / 2 + 1 by omega]
  unfold owe
  isplitr [HO]
  · isplitl [HcS]; · iexact HcS
    isplitl [HatV']; · iexact HatV'
    isplitl [HatV]; · iexact HatV
    isplitl [HatS']; · iexact HatS'
    isplitl [HatS]; · iexact HatS
    isplitl [HatC']; · iexact HatC'
    isplitl [HatC]; · iexact HatC
    isplitr; · iexact HrV
    isplitr; · iexact HrS
    iexact HrC
  iexact HO

/-! ## All the steps -/

/-- The staged arguments, held by device `c`. -/
def args (c : Dev nD) : sProp 𝕄 :=
  iprop(((c : Thread nD τ).loc cc0_stg0_0 ↦{fullShare} xstg m c) ∗ ((c : Thread nD τ).loc cc0_stg1_0 ↦{fullShare} wstg m c))

theorem wp_chunk (c : Dev nD) (s : ℕ) (r : Fin 2) {k : FVec F S128x4096 .f32 → P F} {Q : PUnit.{1} → sProp 𝕄} :
    args m c ⊢ iprop((args m c -∗ WP c (k (chunk m c s r)) Q) -∗ WP c (chunkP c s r k) Q) := by
  unfold args chunkP
  iintro ⟨Hx, Hw⟩ Hk
  iapply (wp_load 𝒱₀ (c : Thread nD τ) none Set.univ (m := xM) (S := Finset.univ) (Finset.subset_univ _)) $$ Hx; iintro Hx
  iapply (wp_load 𝒱₀ (c : Thread nD τ) none Set.univ (m := wM) (S := Finset.univ) (Finset.subset_univ _)) $$ Hw; iintro Hw
  iapply Hk
  isplitl [Hx] <;> iassumption

/-- Something of each of the four stripes. -/
def all4 (Φ : Fin 4 → sProp 𝕄) : sProp 𝕄 := iprop(Φ 0 ∗ Φ 1 ∗ Φ 2 ∗ Φ 3)

/-- What step `s + 1` pays, and what `n` steps from there pay. -/
def stepO (c : Dev nD) (s : ℕ) (O : CellTallies nD τ sig ℕ) : CellTallies nD τ sig ℕ :=
  stripeO c 0 s (stripeO c 1 s (stripeO c 2 s (stripeO c 3 s O)))
def stepsO (c : Dev nD) : ℕ → ℕ → CellTallies nD τ sig ℕ → CellTallies nD τ sig ℕ
  | 0, _, O => O
  | n + 1, s, O => stepO c s (stepsO c n (s + 1) O)

/-- What `n` steps from step `s + 1` use up, and the last step after them. -/
def toks (c : Dev nD) (sid : Fin 4) : ℕ → ℕ → sProp 𝕄
  | 0, s => cred (tallyAt (kcell c (some (.rcv sid (par (s + 1))))) (s / 2) N)
  | n + 1, s => iprop(stepTok c sid s ∗ toks c sid n (s + 1))

theorem Above.stripe (c : Dev nD) (sid : Fin 4) {s w : ℕ} (hs : s ≤ 29) {O : CellTallies nD τ sig ℕ} (hO : Above w O)
    (hw : w < 10 * (s + 1) + 1 + sid.val) : Above w (stripeO c sid s O) := by
  have hsid := sid.isLt
  exact (hO.add (Above.tally _ _ _ _ (by omega) (by show _ < 10 * (2 * ((s + 1) / 2) + 2 - s % 2); omega))).add
    (Above.tally _ _ _ _ (by omega) (by show _ < 10 * (2 * (s / 2) + 1 + s % 2) + 1 + sid.val; omega))

theorem Above.steps (c : Dev nD) {O : CellTallies nD τ sig ℕ} (hO : Above 999 O) : ∀ n s, s + n ≤ 30 → Above (10 * (s + 1)) (stepsO c n s O)
  | 0, s, h => hO.mono (by omega)
  | n + 1, s, h => by
    have h1 : Above (10 * (s + 1)) (stepsO c n (s + 1) O) := (Above.steps c hO n (s + 1) (by omega)).mono (by omega)
    exact (((h1.stripe c 3 (by omega) (by omega)).stripe c 2 (by omega) (by omega)).stripe c 1 (by omega) (by omega)).stripe c 0 (by omega) (by omega)

theorem wp_step (c : Dev nD) {s : ℕ} (hs : s ≤ 29) {O : CellTallies nD τ sig ℕ} (hO : Above (10 * (s + 2)) O) {k : P F} {Q : PUnit.{1} → sProp 𝕄} :
    iprop(know m K ∗ args m c ∗ all4 (fun sid => flight c sid s) ∗ all4 (fun sid => stepTok c sid s) ∗ owe c (stepO c s O))
      ⊢ iprop(((args m c ∗ all4 (fun sid => flight c sid (s + 1)) ∗ owe c O) -∗ WP c k Q) -∗ WP c (stepP c (s + 1) k) Q) := by
  have h3 : Above (10 * (s + 1) + 1 + 3) O := hO.mono (by omega)
  have h2 : Above (10 * (s + 1) + 1 + 2) (stripeO c 3 s O) := (hO.mono (by omega)).stripe c 3 hs (by show _ < _ + 3; omega)
  have h1 : Above (10 * (s + 1) + 1 + 1) (stripeO c 2 s (stripeO c 3 s O)) := (h2.mono (by omega)).stripe c 2 hs (by show _ < _ + 2; omega)
  have h0 : Above (10 * (s + 1) + 1 + 0) (stripeO c 1 s (stripeO c 2 s (stripeO c 3 s O))) := (h1.mono (by omega)).stripe c 1 hs (by show _ < _ + 1; omega)
  unfold all4 stepP stepO
  iintro ⟨#HK, Ha, ⟨F0, F1, F2, F3⟩, ⟨T0, T1, T2, T3⟩, HO⟩ Hk
  iapply (wp_chunk m c (s + 1) 0) $$ Ha; iintro Ha
  iapply (wp_chunk m c (s + 1) 1) $$ Ha; iintro Ha
  iapply (wp_stripe m K c 0 hs h0) $$ [F0 T0 HO]
  · isplitr; · iexact HK
    isplitl [F0]; · iexact F0
    isplitl [T0] <;> iassumption
  iintro ⟨F0, HO⟩
  iapply (wp_stripe m K c 1 hs h1) $$ [F1 T1 HO]
  · isplitr; · iexact HK
    isplitl [F1]; · iexact F1
    isplitl [T1] <;> iassumption
  iintro ⟨F1, HO⟩
  iapply (wp_stripe m K c 2 hs h2) $$ [F2 T2 HO]
  · isplitr; · iexact HK
    isplitl [F2]; · iexact F2
    isplitl [T2] <;> iassumption
  iintro ⟨F2, HO⟩
  iapply (wp_stripe m K c 3 hs h3) $$ [F3 T3 HO]
  · isplitr; · iexact HK
    isplitl [F3]; · iexact F3
    isplitl [T3] <;> iassumption
  iintro ⟨F3, HO⟩
  iapply Hk
  isplitl [Ha]; · iexact Ha
  isplitr [HO]
  · isplitl [F0]; · iexact F0
    isplitl [F1]; · iexact F1
    isplitl [F2] <;> iassumption
  iexact HO

theorem wp_steps (c : Dev nD) {O : CellTallies nD τ sig ℕ} (hO : Above 999 O) {k : P F} {Q : PUnit.{1} → sProp 𝕄} : ∀ n s, s + n ≤ 30 →
    iprop(know m K ∗ args m c ∗ all4 (fun sid => flight c sid s) ∗ all4 (fun sid => toks c sid n s) ∗ owe c (stepsO c n s O))
      ⊢ iprop(((args m c ∗ all4 (fun sid => flight c sid (s + n)) ∗ all4 (fun sid => toks c sid 0 (s + n)) ∗ owe c O) -∗ WP c k Q)
          -∗ WP c (stepsP c n (s + 1) k) Q)
  | 0, s, h => by
    iintro ⟨-, Ha, HF, HT, HO⟩ Hk
    iapply Hk
    isplitl [Ha]; · iexact Ha
    isplitl [HF]; · iexact HF
    isplitl [HT]; · iexact HT
    iexact HO
  | n + 1, s, h => by
    have ih := wp_steps c hO (k := k) (Q := Q) n (s + 1) (by omega)
    rw [show s + 1 + n = s + (n + 1) by omega] at ih
    have hsplit : (all4 (fun sid => toks c sid (n + 1) s) : sProp 𝕄)
        ⊢ iprop(all4 (fun sid => stepTok c sid s) ∗ all4 (fun sid => toks c sid n (s + 1))) := by
      unfold all4
      show iprop((stepTok c 0 s ∗ toks c 0 n (s + 1)) ∗ (stepTok c 1 s ∗ toks c 1 n (s + 1)) ∗ (stepTok c 2 s ∗ toks c 2 n (s + 1))
        ∗ (stepTok c 3 s ∗ toks c 3 n (s + 1))) ⊢ _
      iintro ⟨⟨A0, B0⟩, ⟨A1, B1⟩, ⟨A2, B2⟩, ⟨A3, B3⟩⟩
      isplitl [A0 A1 A2 A3]
      · isplitl [A0]; · iexact A0
        isplitl [A1]; · iexact A1
        isplitl [A2] <;> iassumption
      · isplitl [B0]; · iexact B0
        isplitl [B1]; · iexact B1
        isplitl [B2] <;> iassumption
    iintro ⟨#HK, Ha, HF, HT, HO⟩ Hk
    ihave HT := hsplit $$ HT
    icases HT with ⟨HT, HT'⟩
    iapply (wp_step m K c (by omega) (Above.steps c hO n (s + 1) (by omega))) $$ [Ha HF HT HO]
    · isplitr; · iexact HK
      isplitl [Ha]; · iexact Ha
      isplitl [HF]; · iexact HF
      isplitl [HT]; · iexact HT
      iexact HO
    iintro ⟨Ha, HF, HO⟩
    iapply ih $$ [Ha HF HT' HO]
    · isplitr; · iexact HK
      isplitl [Ha]; · iexact Ha
      isplitl [HF]; · iexact HF
      isplitl [HT'] <;> iassumption
    iintro ⟨Ha, HF, HT, HO⟩
    iapply Hk
    isplitl [Ha]; · iexact Ha
    isplitl [HF]; · iexact HF
    isplitl [HT] <;> iassumption

end Know

end Cert.Ring
-- ==== Proof.Exchange.lean ====
module

public import proofs.«01_k».proof.Proof.Ring
public import Idealize.SL.BI.BigOpNat

/-!
# The end of the ring and the exchange of the maxima

The last step of each stripe, which writes the result's columns, and the three loops in which a device sends
its largest magnitude to all others, waits for theirs and waits for its own sends.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Families over the distances -/

/-- A family over all distances is its member at zero and the family over the others. -/
theorem bigSep_dist (Φ : Fin 32 → sProp 𝕄) :
    bigSep Finset.univ Φ = iprop(Φ 0 ∗ bigSep (Finset.Ico 1 32) (fun j => Φ (Fin.ofNat 32 j))) := by
  have h : bigSep (Finset.univ : Finset (Fin 32)) Φ = bigSep (Finset.Ico 0 32) (fun j => Φ (Fin.ofNat 32 j)) := by
    rw [← Finset.range_eq_Ico, ← Nat.Iio_eq_range, ← Fin.map_valEmbedding_univ, BI.bigSep_map]
    exact bigSep_congr fun i _ => by
      show Φ i = Φ (Fin.ofNat 32 i.val)
      rw [show Fin.ofNat 32 i.val = i from Fin.ext (Nat.mod_eq_of_lt i.isLt)]
  rw [h, bigSep_Ico_succ_bot (by decide)]
  rfl

theorem ofNat_ne_zero {o : ℕ} (h1 : 1 ≤ o) (h2 : o ≤ 31) : Fin.ofNat 32 o ≠ 0 := by
  intro h
  have := congrArg Fin.val h
  simp only [Fin.ofNat, Fin.val_zero] at this
  omega

section Ax
variable (m : (ℓ : Loc nD τ sig) → Buf (Elt F) ℓ) (K : Dev nD × KC → ℕ)

theorem live_axs {o : ℕ} (h1 : 1 ≤ o) (h2 : o ≤ 31) : live (.axs (Fin.ofNat 32 o)) 0 := ⟨rfl, ofNat_ne_zero h1 h2⟩
theorem live_axr {o : ℕ} (h1 : 1 ≤ o) (h2 : o ≤ 31) : live (.axr (Fin.ofNat 32 o)) 0 := ⟨rfl, ofNat_ne_zero h1 h2⟩

/-- What the sends of the maximum from distance `o` on pay. -/
def axO (c : Dev nD) : ℕ → ℕ → CellTallies nD τ sig ℕ
  | 0, _ => 0
  | n + 1, o => axO c n (o + 1) + tallyAt (kcell (axD (Fin.ofNat 32 o) c) (some (.axr (Fin.ofNat 32 o)))) 0 N'

theorem Above.ax (c : Dev nD) : ∀ n o, Above 999 (axO c n o)
  | 0, _ => Above.zero _
  | n + 1, o => (Above.ax c n (o + 1)).add (Above.tally _ _ _ _ (by decide) (by show 999 < 1000; decide))

/-- What the send at distance `o` uses, and what it leaves. -/
def axSendTok (c : Dev nD) (o : Fin 32) : sProp 𝕄 :=
  iprop(dutyTok ER (kcell c (some (.axs o))) 0 false ∗ dutyTok ER (kcell (axD o c) (some (.axr o))) 0 false)

theorem ax_moved (o : Fin 32) (a : F .f32) (fd : (cc0_scratch5 : Ref sig .tc).ty.Contents (Elt F)) :
    (axrM.access (axR o)).read (Elt F) ((axslot o).view.write (Elt F) fd (axM.view.read (Elt F) (axPay a)) Finset.univ) = axrPay a := by
  funext x
  obtain ⟨y, rfl⟩ := (Shape.reshapeEquiv (squeezes_S1x8x128_S8x128).numel_eq).surjective x
  show (axslot o).view.read (Elt F) ((axslot o).view.write (Elt F) fd (axM.view.read (Elt F) (axPay a)) Finset.univ) y = _
  rw [View.read_write_univ]
  rfl

theorem wp_axSend (c : Dev nD) {o' : Fin 32} (hne : o' ≠ 0) {O : CellTallies nD τ sig ℕ} {k : P F} {Q : PUnit.{1} → sProp 𝕄} :
    iprop(know m K ∗ axSendTok c o' ∗ axsrc c (Transfers.shareTokN fullShare o'.val) (axPay (amax m c)) ∗ axfree (axD o' c) o'
        ∗ owe c (O + tallyAt (kcell (axD o' c) (some (.axr o'))) 0 N'))
      ⊢ iprop(((cred (tallyAt (kcell c (some (.axs o'))) 0 N') ∗ owe c O) -∗ WP c k Q)
          -∗ WP c (.op (.enqueueDma axM (.remote (Dev.tc (axD o' c)) (axslot o') (.dma (axsS o'))) (.dma (axrS o'))
      (Memref.isWhole_whole _).wordExact ((View.wordExact_bits rfl).reshape _ _) ⟨⟨rfl, Or.inl rfl⟩, trivial⟩) fun _ => k) Q) := by
  have l1 : live (.axs o') 0 := ⟨rfl, hne⟩
  have l2 : live (.axr o') 0 := ⟨rfl, hne⟩
  have hpay2 : ∀ fd : (cc0_scratch5 : Ref sig .tc).ty.Contents (Elt F),
      ((axslot o').view.loc (axD o' c : Thread nD τ) ↦[(axslot o').view.set]{fullShare}
          ((axslot o').view.write (Elt F) fd (axM.view.read (Elt F) (axPay (amax m c))) Finset.univ) : sProp 𝕄)
      ⊢ (ringRd (F := F) m).payload (kcell (axD o' c) (some (.axr o'))) 0 false := by
    intro fd
    rw [payload_eq]
    show _ ⊢ axheld (axD o' c) o' (axrPay (amax m (axFrom o' (axD o' c))))
    unfold axheld
    rw [axFrom_axD]
    iintro H
    iexists _
    isplitr
    · ipureintro; exact ax_moved o' (amax m c) fd
    iexact H
  have hpay1 : (axM.view.loc (c : Thread nD τ) ↦[axM.view.set]{Transfers.shareTokN fullShare o'.val} (axPay (amax m c)) : sProp 𝕄)
      ⊢ (ringRd (F := F) m).payload (kcell c (some (.axs o'))) 0 false := by
    rw [payload_eq]
    exact Entails.refl _
  unfold axSendTok axsrc axfree owe
  iintro ⟨#HK, ⟨HtS, HtV⟩, Hs, ⟨%fd, Hd⟩, ⟨%W, HO⟩⟩ Hk
  iapply (Rounds.wp_send_pointsTo 𝒱₀ ER (ringRd m) (c : Thread nD τ) none (κ₁ := K (c, some (.axs o')))
      (κ₂ := K (axD o' c, some (.axr o'))) (c' := (axD o' c : Thread nD τ)) (src := axM) (dst := axslot o')
      (sS := .dma (axsS o')) (sem := .dma (axrS o'))
      (r₁ := 0) (r₂ := 0) (d₁ := false) (d₂ := false) (fs := axPay (amax m c)) (fd := fd) (q := Transfers.shareTokN fullShare o'.val)
      (mem_duties m c l1) (mem_duties m (axD o' c) l2)
      0 0 N' (axslot_credit o') (amount_eq m c (some (.axs o')) _ _) (amount_eq m (axD o' c) (some (.axr o')) _ _) O rfl (W := W)
      hpay1 (hpay2 fd)) $$ [Hs Hd HO HtS HtV]
  · isplitr; · iapply (know_inv m K c (some (.axs o'))); iexact HK
    isplitr; · iapply (know_inv m K (axD o' c) (some (.axr o'))); iexact HK
    isplitl [Hs]; · iexact Hs
    isplitl [Hd]; · iexact Hd
    isplitl [HO]; · iexact HO
    isplitl [HtS]; · iexact HtS
    isplitr; · iapply (know_reached m K c (some (.axs o'))); iexact HK
    isplitl [HtV]; · iexact HtV
    iapply (know_reached m K (axD o' c) (some (.axr o'))); iexact HK
  iintro ⟨Hc, HO⟩
  iapply Hk
  isplitl [Hc]; · iexact Hc
  iexists W; iexact HO

/-- All the sends. -/
theorem wp_axSends (c : Dev nD) {k : P F} {Q : PUnit.{1} → sProp 𝕄} : ∀ n o, 1 ≤ o → o + n ≤ 32 →
    iprop(know m K ∗ bigSep (Finset.Ico o (o + n)) (fun j => iprop(axSendTok c (Fin.ofNat 32 j)
            ∗ axsrc c (Transfers.shareTokN fullShare (Fin.ofNat 32 j).val) (axPay (amax m c)) ∗ axfree (axD (Fin.ofNat 32 j) c) (Fin.ofNat 32 j))) ∗ owe c (axO c n o))
      ⊢ iprop(((bigSep (Finset.Ico o (o + n)) (fun j => cred (tallyAt (kcell c (some (.axs (Fin.ofNat 32 j)))) 0 N')) ∗ owe c 0) -∗ WP c k Q)
          -∗ WP c (axSendP c n o k) Q)
  | 0, o, h1, h2 => by
    rw [show o + 0 = o from rfl, Finset.Ico_self, bigSep_empty, bigSep_empty]
    iintro ⟨-, He, HO⟩ Hk
    iapply Hk
    isplitl [He]; · iexact He
    iexact HO
  | n + 1, o, h1, h2 => by
    have ih := wp_axSends c (k := k) (Q := Q) n (o + 1) (by omega) (by omega)
    rw [show o + 1 + n = o + (n + 1) by omega] at ih
    have hlt : o < o + (n + 1) := by omega
    rw [bigSep_Ico_succ_bot hlt, bigSep_Ico_succ_bot hlt]
    unfold axSendP axO
    iintro ⟨#HK, ⟨⟨Ht, Hs, Hf⟩, HR⟩, HO⟩ Hk
    iapply (wp_axSend m K c (ofNat_ne_zero h1 (by omega))) $$ [Ht Hs Hf HO]
    · isplitr; · iexact HK
      isplitl [Ht]; · iexact Ht
      isplitl [Hs]; · iexact Hs
      isplitl [Hf] <;> iassumption
    iintro ⟨Hc, HO⟩
    iapply ih $$ [HR HO]
    · isplitr; · iexact HK
      isplitl [HR] <;> iassumption
    iintro ⟨HC, HO⟩
    iapply Hk
    isplitr [HO]
    · isplitl [Hc] <;> iassumption
    iexact HO

/-- All the waits for the others' maxima. -/
theorem wp_axRecvs (c : Dev nD) {k : P F} {Q : PUnit.{1} → sProp 𝕄} : ∀ n o, 1 ≤ o → o + n ≤ 32 →
    iprop(know m K ∗ bigSep (Finset.Ico o (o + n)) (fun j => iprop(cred (tallyAt (kcell c (some (.axr (Fin.ofNat 32 j)))) 0 N')
            ∗ atPos ER (kcell c (some (.axr (Fin.ofNat 32 j)))) 0 ∅ 0)) ∗ owe c 0)
      ⊢ iprop(((bigSep (Finset.Ico o (o + n)) (fun j => iprop(atPos ER (kcell c (some (.axr (Fin.ofNat 32 j)))) 1 ∅ 0
            ∗ axheld c (Fin.ofNat 32 j) (axrPay (amax m (axFrom (Fin.ofNat 32 j) c))))) ∗ owe c 0) -∗ WP c k Q)
          -∗ WP c (axRecvP n o k) Q)
  | 0, o, h1, h2 => by
    rw [show o + 0 = o from rfl, Finset.Ico_self, bigSep_empty, bigSep_empty]
    iintro ⟨-, He, HO⟩ Hk
    iapply Hk
    isplitl [He] <;> iassumption
  | n + 1, o, h1, h2 => by
    have ih := wp_axRecvs c (k := k) (Q := Q) n (o + 1) (by omega) (by omega)
    rw [show o + 1 + n = o + (n + 1) by omega] at ih
    have hlt : o < o + (n + 1) := by omega
    rw [bigSep_Ico_succ_bot hlt, bigSep_Ico_succ_bot hlt]
    unfold axRecvP
    iintro ⟨#HK, ⟨⟨Hc, Hat⟩, HR⟩, HO⟩ Hk
    iapply (wp_waitK m K c (k := .axr (Fin.ofNat 32 o)) (r := 0) (live_axr h1 (by omega)) (by decide) (Above.zero 1000) le_rfl
      (op := .waitDma2 (axrS (Fin.ofNat 32 o)) axM (axslot (Fin.ofNat 32 o)) (Memref.isWhole_whole _).wordExact ((View.wordExact_bits rfl).reshape _ _))
      (wpE_waitDma2_eq 𝒱₀ (c : Thread nD τ) none Set.univ)) $$ [Hc HO Hat]
    · isplitr; · iexact HK
      isplitl [Hc]; · iexact Hc
      isplitl [HO] <;> iassumption
    iintro ⟨HO, Hat, -, Hp⟩
    iapply ih $$ [HR HO]
    · isplitr; · iexact HK
      isplitl [HR] <;> iassumption
    iintro ⟨HC, HO⟩
    iapply Hk
    isplitr [HO]
    · isplitl [Hat Hp]
      · isplitl [Hat]; · iexact Hat
        iapply (Entails.of_eq (show payK m c (some (.axr (Fin.ofNat 32 o))) 0 false
          = axheld c (Fin.ofNat 32 o) (axrPay (amax m (axFrom (Fin.ofNat 32 o) c))) from rfl)); iexact Hp
      iexact HC
    iexact HO

/-- All the waits for the own sends. -/
theorem wp_axSents (c : Dev nD) {k : P F} {Q : PUnit.{1} → sProp 𝕄} : ∀ n o, 1 ≤ o → o + n ≤ 32 →
    iprop(know m K ∗ bigSep (Finset.Ico o (o + n)) (fun j => iprop(cred (tallyAt (kcell c (some (.axs (Fin.ofNat 32 j)))) 0 N')
            ∗ atPos ER (kcell c (some (.axs (Fin.ofNat 32 j)))) 0 ∅ 0)) ∗ owe c 0)
      ⊢ iprop(((bigSep (Finset.Ico o (o + n)) (fun j => iprop(atPos ER (kcell c (some (.axs (Fin.ofNat 32 j)))) 1 ∅ 0
            ∗ axsrc c (Transfers.shareTokN fullShare (Fin.ofNat 32 j).val) (axPay (amax m c)))) ∗ owe c 0) -∗ WP c k Q)
          -∗ WP c (axSentP n o k) Q)
  | 0, o, h1, h2 => by
    rw [show o + 0 = o from rfl, Finset.Ico_self, bigSep_empty, bigSep_empty]
    iintro ⟨-, He, HO⟩ Hk
    iapply Hk
    isplitl [He] <;> iassumption
  | n + 1, o, h1, h2 => by
    have hpay : payK m c (some (.axs (Fin.ofNat 32 o))) 0 false = axsrc c (Transfers.shareTokN fullShare (Fin.ofNat 32 o).val) (axPay (amax m c)) := rfl
    have ih := wp_axSents c (k := k) (Q := Q) n (o + 1) (by omega) (by omega)
    rw [show o + 1 + n = o + (n + 1) by omega] at ih
    have hlt : o < o + (n + 1) := by omega
    rw [bigSep_Ico_succ_bot hlt, bigSep_Ico_succ_bot hlt]
    unfold axSentP
    iintro ⟨#HK, ⟨⟨Hc, Hat⟩, HR⟩, HO⟩ Hk
    iapply (wp_waitK m K c (k := .axs (Fin.ofNat 32 o)) (r := 0) (live_axs h1 (by omega)) (by decide) (Above.zero 1000) (Nat.zero_le _)
      (op := .waitDma2 (axsS (Fin.ofNat 32 o)) (axslot (Fin.ofNat 32 o)) axM ((View.wordExact_bits rfl).reshape _ _) (Memref.isWhole_whole _).wordExact)
      (wpE_waitDma2_eq 𝒱₀ (c : Thread nD τ) none Set.univ)) $$ [Hc HO Hat]
    · isplitr; · iexact HK
      isplitl [Hc]; · iexact Hc
      isplitl [HO] <;> iassumption
    iintro ⟨HO, Hat, -, Hp⟩
    ihave Hp := (Entails.of_eq hpay) $$ Hp
    iapply ih $$ [HR HO]
    · isplitr; · iexact HK
      isplitl [HR] <;> iassumption
    iintro ⟨HC, HO⟩
    iapply Hk
    isplitr [HO]
    · isplitl [Hat Hp]
      · isplitl [Hat] <;> iassumption
      iexact HC
    iexact HO

end Ax

end Cert.Ring
-- ==== Proof.Finish.lean ====
module

public import proofs.«01_k».proof.Proof.Exchange
public import Idealize.ShloMosaic.Lib.Ring
public import Idealize.ShloMosaic.Lib.ViewIndex
public import Idealize.ShloMosaic.Lib.Pipeline.ValueKit.Geometry

/-!
# The last step, the exchange and the quantisation

The rules for the last step of a stripe and for everything after it, and the two scratch buffers put together
again from their slots.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Slots of the whole scratch buffers -/

theorem mem_slot (sid : Fin 4) (b : Fin 2) (i : S4x2x128x2048.Idx) : i ∈ (slot sid b).view.set ↔ i 0 = sid ∧ i 1 = b := by
  rw [slot_set]
  show i ∈ ((View.whole cc0_scratch0).slice (accR sid b)).set ↔ _
  rw [View.set_slice_whole, Rect.mem_set_unit]
  constructor
  · intro h
    have h0 := h 0
    have h1 := h 1
    constructor
    · refine Fin.ext ?_
      have : sid.val ≤ (i 0).val ∧ (i 0).val < sid.val + 1 := h0
      omega
    · refine Fin.ext ?_
      have : b.val ≤ (i 1).val ∧ (i 1).val < b.val + 1 := h1
      omega
  · rintro ⟨h0, h1⟩ a
    have e0 : (i 0).val = sid.val := congrArg Fin.val h0
    have e1 : (i 1).val = b.val := congrArg Fin.val h1
    fin_cases a
    · show sid.val ≤ (i 0).val ∧ (i 0).val < sid.val + 1
      omega
    · show b.val ≤ (i 1).val ∧ (i 1).val < b.val + 1
      omega
    · exact ⟨Nat.zero_le _, lt_of_lt_of_eq (i 2).isLt (Nat.zero_add _).symm⟩
    · exact ⟨Nat.zero_le _, lt_of_lt_of_eq (i 3).isLt (Nat.zero_add _).symm⟩

theorem mem_axslot (o : Fin 32) (i : S32x8x128.Idx) : i ∈ (axslot o).view.set ↔ i 0 = o := by
  rw [axslot_set]
  show i ∈ ((View.whole cc0_scratch5).slice (axR o)).set ↔ _
  rw [View.set_slice_whole, Rect.mem_set_unit]
  constructor
  · intro h
    refine Fin.ext ?_
    have : o.val ≤ (i 0).val ∧ (i 0).val < o.val + 1 := h 0
    omega
  · intro h0 a
    have e0 : (i 0).val = o.val := congrArg Fin.val h0
    fin_cases a
    · show o.val ≤ (i 0).val ∧ (i 0).val < o.val + 1
      omega
    · exact ⟨Nat.zero_le _, lt_of_lt_of_eq (i 1).isLt (Nat.zero_add _).symm⟩
    · exact ⟨Nat.zero_le _, lt_of_lt_of_eq (i 2).isLt (Nat.zero_add _).symm⟩

/-- The elements of a slot. -/
def slotSet (p : Fin 4 × Fin 2) : Finset S4x2x128x2048.Idx := (slot p.1 p.2).view.set
def axslotSet (o : Fin 32) : Finset S32x8x128.Idx := (axslot o).view.set

theorem slots_disjoint (p p' : Fin 4 × Fin 2) (h : p ≠ p') : Disjoint (slotSet p) (slotSet p') := by
  refine Finset.disjoint_left.mpr fun i hi hi' => h ?_
  have h1 := (mem_slot p.1 p.2 i).mp hi
  have h2 := (mem_slot p'.1 p'.2 i).mp hi'
  exact Prod.ext (h1.1.symm.trans h2.1) (h1.2.symm.trans h2.2)
theorem slots_cover : (Finset.univ : Finset (Fin 4 × Fin 2)).biUnion slotSet = Finset.univ :=
  Finset.eq_univ_of_forall fun i => Finset.mem_biUnion.mpr ⟨(i 0, i 1), Finset.mem_univ _, (mem_slot _ _ i).mpr ⟨rfl, rfl⟩⟩

theorem axslots_disjoint (o o' : Fin 32) (h : o ≠ o') : Disjoint (axslotSet o) (axslotSet o') := by
  refine Finset.disjoint_left.mpr fun i hi hi' => h ?_
  exact ((mem_axslot o i).mp hi).symm.trans ((mem_axslot o' i).mp hi')
theorem axslots_cover : (Finset.univ : Finset (Fin 32)).biUnion axslotSet = Finset.univ :=
  Finset.eq_univ_of_forall fun i => Finset.mem_biUnion.mpr ⟨i 0, Finset.mem_univ _, (mem_axslot _ i).mpr rfl⟩

theorem free_eq (c : Dev nD) (p : Fin 4 × Fin 2) :
    (free c p.1 p.2 : sProp 𝕄) = iprop(∃ f : Buf (Elt F) ((c : Thread nD τ).loc cc0_scratch0), (c : Thread nD τ).loc cc0_scratch0 ↦[slotSet p]{fullShare} f) := rfl
theorem free_at (c : Dev nD) (p : Fin 4 × Fin 2) (f : Buf (Elt F) ((c : Thread nD τ).loc cc0_scratch0)) :
    ((c : Thread nD τ).loc cc0_scratch0 ↦[slotSet p]{fullShare} f : sProp 𝕄) ⊢ free c p.1 p.2 := by
  rw [free_eq]; iintro H; iexists f; iexact H
theorem axfree_at (c : Dev nD) (o : Fin 32) (f : Buf (Elt F) ((c : Thread nD τ).loc cc0_scratch5)) :
    ((c : Thread nD τ).loc cc0_scratch5 ↦[axslotSet o]{fullShare} f : sProp 𝕄) ⊢ axfree c o := by
  unfold axfree; iintro H; iexists f; iexact H

/-- The accumulators are their eight slots. -/
theorem acc_split (c : Dev nD) (f : Buf (Elt F) ((c : Thread nD τ).loc cc0_scratch0)) :
    ((c : Thread nD τ).loc cc0_scratch0 ↦{fullShare} f : sProp 𝕄) ⊢ bigSep Finset.univ (fun p : Fin 4 × Fin 2 => free c p.1 p.2) :=
  (Entails.of_eq (Ring.pointsTo_blocks (ℓ := (c : Thread nD τ).loc cc0_scratch0) slotSet slots_disjoint slots_cover f)).trans (bigSep_mono fun p _ => free_at c p f)
theorem acc_join (c : Dev nD) (f₀ : Buf (Elt F) ((c : Thread nD τ).loc cc0_scratch0)) :
    bigSep Finset.univ (fun p : Fin 4 × Fin 2 => free c p.1 p.2) ⊢ (iprop(∃ f, (c : Thread nD τ).loc cc0_scratch0 ↦{fullShare} f) : sProp 𝕄) :=
  (Entails.of_eq (bigSep_congr fun p _ => free_eq c p)).trans
    (Ring.pointsTo_blocks_join_exists (ℓ := (c : Thread nD τ).loc cc0_scratch0) slotSet slots_disjoint slots_cover f₀)

/-- The buffer of maxima is its slots. -/
theorem axr_split (c : Dev nD) (f : Buf (Elt F) ((c : Thread nD τ).loc cc0_scratch5)) :
    ((c : Thread nD τ).loc cc0_scratch5 ↦{fullShare} f : sProp 𝕄) ⊢ bigSep Finset.univ (fun o : Fin 32 => axfree c o) :=
  (Entails.of_eq (Ring.pointsTo_blocks (ℓ := (c : Thread nD τ).loc cc0_scratch5) axslotSet axslots_disjoint axslots_cover f)).trans (bigSep_mono fun o _ => axfree_at c o f)

/-- The buffer of maxima when slot `o` holds `a o` throughout. -/
def axG (a : Fin 32 → F .f32) : (cc0_scratch5 : Ref sig .tc).ty.Contents (Elt F) := fun i => a (i 0)

theorem read_axG (o : Fin 32) (a : Fin 32 → F .f32) : (axrM.access (axR o)).read (Elt F) (axG a) = axrPay (a o) := by
  funext x
  show a ((axrM.access (axR o)).emb x 0) = a o
  congr 1
  refine Fin.ext ?_
  have h := ValueKit.view_emb_slice_whole_unit_val cc0_scratch5 (![o.val, 0, 0]) S1x8x128.size (inb_axr o) x 0
  have hx : (x 0).val < 1 := (x 0).isLt
  refine h.trans ?_
  show o.val + (x 0).val = o.val
  omega

theorem axheld_at (c : Dev nD) (o : Fin 32) (a : Fin 32 → F .f32) :
    (axheld c o (axrPay (a o)) : sProp 𝕄) ⊢ ((c : Thread nD τ).loc cc0_scratch5 ↦[axslotSet o]{fullShare} axG a) := by
  unfold axheld
  iintro ⟨%f, %hf, H⟩
  have he : ((axslot o).view.loc (c : Thread nD τ) ↦[(axslot o).view.set]{fullShare} f : sProp 𝕄)
      = ((c : Thread nD τ).loc cc0_scratch5 ↦[axslotSet o]{fullShare} axG a) := by
    refine pointsTo_congr fun i hi => ?_
    rw [axslot_set] at hi
    obtain ⟨x, rfl⟩ := View.exists_of_mem_set_slice hi
    have h := congrFun (hf.trans (read_axG o a).symm) x
    exact View.eq_of_read_eq (v := axrM.access (axR o)) h
  iapply (Entails.of_eq he); iexact H

theorem axr_join (c : Dev nD) (a : Fin 32 → F .f32) :
    bigSep Finset.univ (fun o : Fin 32 => axheld c o (axrPay (a o))) ⊢ ((c : Thread nD τ).loc cc0_scratch5 ↦{fullShare} axG a : sProp 𝕄) :=
  (bigSep_mono fun o _ => axheld_at c o a).trans
    (Entails.of_eq (Ring.pointsTo_blocks (ℓ := (c : Thread nD τ).loc cc0_scratch5) axslotSet axslots_disjoint axslots_cover (axG a)).symm)

theorem bigSep_unsep (S : Finset ℕ) (Φ Ψ : ℕ → sProp 𝕄) : bigSep S (fun j => iprop(Φ j ∗ Ψ j)) ⊢ iprop(bigSep S Φ ∗ bigSep S Ψ) :=
  Entails.of_eq (bigSep_sep' S Φ Ψ)

/-! ## The last step of a stripe -/

section Last
variable (m : (ℓ : Loc nD τ sig) → Buf (Elt F) ℓ) (K : Dev nD × KC → ℕ)

/-- The columns of a stripe in the result. -/
abbrev outR (sid : Fin 4) : Rect S128x8192 := Rect.unit (s := S128x8192) ![0, colOf sid] S128x2048.size (inb_col sid)

/-- The result as staged on device `c`. -/
def outPts (c : Dev nD) (g : (cc0_stg2_0 : Ref sig .tc).ty.Contents (Elt F)) : sProp 𝕄 := (c : Thread nD τ).loc cc0_stg2_0 ↦{fullShare} g
/-- With the finished stripe written. -/
def stOut (c : Dev nD) (sid : Fin 4) (g : (cc0_stg2_0 : Ref sig .tc).ty.Contents (Elt F)) : (cc0_stg2_0 : Ref sig .tc).ty.Contents (Elt F) :=
  (outM.access (outR sid)).write (Elt F) g (outv m c sid) Finset.univ

/-- What a stripe leaves: its two slots, its semaphores past their last round, the slots of the buffers of maxima. -/
def ended (c : Dev nD) (sid : Fin 4) : sProp 𝕄 :=
  iprop(free c sid 0 ∗ free c sid 1
    ∗ atPos ER (kcell c (some (.snd sid 0))) 16 ∅ 0 ∗ atPos ER (kcell c (some (.snd sid 1))) 15 ∅ 0
    ∗ atPos ER (kcell c (some (.rcv sid 0))) 15 ∅ 0 ∗ atPos ER (kcell c (some (.rcv sid 1))) 16 ∅ 0
    ∗ atPos ER (kcell c (some (.crd sid 0))) 15 ∅ 0 ∗ atPos ER (kcell c (some (.crd sid 1))) 15 ∅ 0
    ∗ extra sid 31 c)

theorem wp_fin (c : Dev nD) (sid : Fin 4) {O : CellTallies nD τ sig ℕ} (hO : Above 999 O)
    (g : (cc0_stg2_0 : Ref sig .tc).ty.Contents (Elt F)) {k : F .f32 → P F} {Q : PUnit.{1} → sProp 𝕄} :
    iprop(know m K ∗ flight c sid 30 ∗ toks c sid 0 30 ∗ owe c O ∗ outPts c g)
      ⊢ iprop(((ended c sid ∗ owe c O ∗ outPts c (stOut m c sid g)) -∗ WP c (k (amx m c sid)) Q)
          -∗ WP c (finP sid (chunk m c 31 (half sid)) k) Q) := by
  unfold flight toks finP outPts
  iintro ⟨#HK, ⟨HcS, HatV, HatV', HatS, HatS', HatC, HatC', -, -, -⟩, HcV, HO, Hout⟩ Hk
  iapply (wp_land m K c sid (s := 30) le_rfl hO (by decide)) $$ [HcV HcS HatV HatS HO]
  · isplitr; · iexact HK
    isplitl [HcV]; · iexact HcV
    isplitl [HcS]; · iexact HcS
    isplitl [HatV]; · iexact HatV
    isplitl [HatS] <;> iassumption
  unfold rcvPay
  iintro ⟨⟨Hin, -, He⟩, Hfr, HatV, HatS, -, -, HO⟩
  ihave Hin := (Entails.of_eq (show held c sid (par (30 + 1)) (part m sid (30 + 1 - 1) (fromD sid c))
    = held c sid 1 (part m sid 30 (fromD sid c)) from rfl)) $$ Hin
  iapply (wp_ldAcc c sid 1) $$ Hin; iintro Hin
  iapply (wp_load 𝒱₀ (c : Thread nD τ) none Set.univ (m := outM) (S := Finset.univ) (Finset.subset_univ _)) $$ Hout; iintro Hout
  iapply (wp_store 𝒱₀ (c : Thread nD τ) none Set.univ (m := outM) (r := outR sid) (Mk := Finset.univ) (S := Finset.univ) (Finset.subset_univ _)) $$ Hout; iintro Hout
  ihave Hin := (held_free c sid 1 _) $$ Hin
  iapply Hk
  isplitr [HO Hout]
  · unfold ended
    isplitl [Hfr]; · iexact Hfr
    isplitl [Hin]; · iexact Hin
    isplitl [HatS]; · iexact HatS
    isplitl [HatS']; · iexact HatS'
    isplitl [HatV']; · iexact HatV'
    isplitl [HatV]; · iexact HatV
    isplitl [HatC]; · iexact HatC
    isplitl [HatC']; · iexact HatC'
    iexact He
  isplitl [HO]; · iexact HO
  iexact Hout

/-! ## The exchange of the maxima and the quantisation -/

/-- What the exchange starts from, and what it leaves. -/
def axTail (c : Dev nD) : sProp 𝕄 :=
  iprop((∃ f : Buf (Elt F) ((c : Thread nD τ).loc cc0_scratch4), (c : Thread nD τ).loc cc0_scratch4 ↦{fullShare} f) ∗ axfree c 0
    ∗ bigSep (Finset.Ico 1 32) (fun j => axSendTok c (Fin.ofNat 32 j))
    ∗ bigSep (Finset.Ico 1 32) (fun j => axfree (axD (Fin.ofNat 32 j) c) (Fin.ofNat 32 j))
    ∗ bigSep (Finset.Ico 1 32) (fun j => cred (tallyAt (kcell c (some (.axr (Fin.ofNat 32 j)))) 0 N'))
    ∗ bigSep (Finset.Ico 1 32) (fun j => atPos ER (kcell c (some (.axr (Fin.ofNat 32 j)))) 0 ∅ 0)
    ∗ bigSep (Finset.Ico 1 32) (fun j => atPos ER (kcell c (some (.axs (Fin.ofNat 32 j)))) 0 ∅ 0))
def axEnd (c : Dev nD) : sProp 𝕄 :=
  iprop((∃ f : Buf (Elt F) ((c : Thread nD τ).loc cc0_scratch4), (c : Thread nD τ).loc cc0_scratch4 ↦{fullShare} f)
    ∗ (∃ f : Buf (Elt F) ((c : Thread nD τ).loc cc0_scratch5), (c : Thread nD τ).loc cc0_scratch5 ↦{fullShare} f)
    ∗ bigSep (Finset.Ico 1 32) (fun j => atPos ER (kcell c (some (.axr (Fin.ofNat 32 j)))) 1 ∅ 0)
    ∗ bigSep (Finset.Ico 1 32) (fun j => atPos ER (kcell c (some (.axs (Fin.ofNat 32 j)))) 1 ∅ 0))

/-- All devices' maxima, as they lie on device `c`. -/
def axv (c : Dev nD) : (cc0_scratch5 : Ref sig .tc).ty.Contents (Elt F) := axG fun o => amax m (axFrom o c)
/-- The quantised result. -/
def quant (c : Dev nD) (y : (cc0_stg2_0 : Ref sig .tc).ty.Contents (Elt F)) : (cc0_stg2_0 : Ref sig .tc).ty.Contents (Elt F) :=
  k0_pay1 (k0_pay239 (k0_pay238 (axv m c))) (k0_pay240 (k0_pay238 (axv m c)) y)

theorem axFrom_zero (c : Dev nD) : axFrom 0 c = c := by revert c; decide +kernel

theorem zz2 : (![0, 0] : Fin 2 → ℕ) = fun _ => 0 := funext fun a => by fin_cases a <;> rfl
theorem zz3 : (![0, 0, 0] : Fin 3 → ℕ) = fun _ => 0 := funext fun a => by fin_cases a <;> rfl

theorem wp_tail (c : Dev nD) (g : (cc0_stg2_0 : Ref sig .tc).ty.Contents (Elt F)) {Q : PUnit.{1} → sProp 𝕄} :
    iprop(know m K ∗ axTail c ∗ owe c (axO c 31 1) ∗ outPts c g)
      ⊢ iprop(((axEnd c ∗ owe c 0 ∗ outPts c (quant m c g)) -∗ |={Set.univ}=> Q ⟨⟩) -∗ WP c (tailP c (amax m c)) Q) := by
  have hax : ∀ v : (cc0_scratch4 : Ref sig .tc).ty.Contents (Elt F),
      ((axM : Memref sig .tc .vmem S8x128 .f32).view.loc (c : Thread nD τ) ↦{fullShare} v : sProp 𝕄)
        = iprop(((c : Thread nD τ).loc cc0_scratch4 ↦{Transfers.shareDrop fullShare 32} v)
          ∗ ((c : Thread nD τ).loc cc0_scratch4 ↦{Transfers.shareTokN fullShare 0} v)
          ∗ bigSep (Finset.Ico 1 32) (fun j => (c : Thread nD τ).loc cc0_scratch4 ↦{Transfers.shareTokN fullShare (Fin.ofNat 32 j).val} v)) := by
    intro v
    show _ = iprop(_ ∗ ((c : Thread nD τ).loc cc0_scratch4 ↦{Transfers.shareTokN fullShare (0 : Fin 32).val} v) ∗ _)
    rw [← bigSep_dist (fun o : Fin 32 => ((c : Thread nD τ).loc cc0_scratch4 ↦{Transfers.shareTokN fullShare o.val} v : sProp 𝕄))]
    exact BI.Entails.antisymm (Transfers.pointsTo_toks_split fullShare 32) (Transfers.pointsTo_toks_join fullShare 32)
  have hsrc : ∀ j : ℕ, ((c : Thread nD τ).loc cc0_scratch4 ↦{Transfers.shareTokN fullShare (Fin.ofNat 32 j).val} axPay (amax m c) : sProp 𝕄)
      = axsrc c (Transfers.shareTokN fullShare (Fin.ofNat 32 j).val) (axPay (amax m c)) := by
    intro j; unfold axsrc; rw [show (axM : Memref sig .tc .vmem S8x128 .f32).view.set = Finset.univ from View.set_whole _]
  unfold tailP axTail outPts
  iintro ⟨#HK, ⟨⟨%f, Hax⟩, H0, HT, HF, HC, HV, HS⟩, HO, Hout⟩ Hk
  iapply (wp_load 𝒱₀ (c : Thread nD τ) none Set.univ (m := axM) (S := Finset.univ) (Finset.subset_univ _)) $$ Hax; iintro Hax
  iapply (wp_store 𝒱₀ (c : Thread nD τ) none Set.univ (m := axM) (r := Rect.unit (s := S8x128) ![0, 0] S8x128.size inb_S8x128_S8x128_0_0) (Mk := Finset.univ) (S := Finset.univ) (Finset.subset_univ _)) $$ Hax; iintro Hax
  rw [show ((axM : Memref sig .tc .vmem S8x128 .f32).access (Rect.unit (s := S8x128) ![0, 0] S8x128.size inb_S8x128_S8x128_0_0)).write (Elt F) f (axPay (amax m c)) Finset.univ
    = axPay (amax m c) from Memref.write_access_unit_zero_univ (Elt F) cc0_scratch4 zz2 _ f _]
  unfold axfree
  icases H0 with ⟨%f0, H0⟩
  iapply (wp_load_rect 𝒱₀ (c : Thread nD τ) none Set.univ (m := axrM) (r := axR 0) (S := (axslot 0).view.set) (axslot_set 0).symm.subset) $$ H0; iintro H0
  iapply (wp_store 𝒱₀ (c : Thread nD τ) none Set.univ (m := axrM) (r := axR 0) (Mk := Finset.univ) (S := (axslot 0).view.set) (axslot_set 0).symm.subset) $$ H0; iintro H0
  ihave Hax := (Entails.of_eq (hax (axPay (amax m c)))) $$ Hax
  icases Hax with ⟨Hrest, Ht0, Htk⟩
  iapply (wp_axSends m K c 31 1 le_rfl le_rfl) $$ [HT Htk HF HO]
  · isplitr; · iexact HK
    isplitr [HO]
    · rw [bigSep_sep', bigSep_sep']
      isplitl [HT]; · iexact HT
      isplitl [Htk]
      · iapply (Entails.of_eq (bigSep_congr fun j _ => hsrc j)); iexact Htk
      unfold axfree
      iexact HF
    iexact HO
  iintro ⟨HCS, HO⟩
  iapply (wp_axRecvs m K c 31 1 le_rfl le_rfl) $$ [HC HV HO]
  · isplitr; · iexact HK
    isplitr [HO]
    · rw [bigSep_sep']
      isplitl [HC] <;> iassumption
    iexact HO
  iintro ⟨HR, HO⟩
  ihave HR := (bigSep_unsep _ _ _) $$ HR
  icases HR with ⟨HV, HR⟩
  have hjoin : iprop(axheld c 0 (axrPay (amax m c)) ∗ bigSep (Finset.Ico 1 32) (fun j => axheld c (Fin.ofNat 32 j) (axrPay (amax m (axFrom (Fin.ofNat 32 j) c)))))
      ⊢ ((c : Thread nD τ).loc cc0_scratch5 ↦{fullShare} axv m c : sProp 𝕄) := by
    refine Entails.trans (Entails.of_eq ?_) (axr_join c fun o => amax m (axFrom o c))
    rw [bigSep_dist, axFrom_zero]
  ihave Hall := hjoin $$ [H0 HR]
  · isplitl [H0]
    · unfold axheld
      iexists ((axrM.access (axR 0)).write (Elt F) f0 (axrPay (amax m c)) Finset.univ)
      isplitr; · ipureintro; exact View.read_write_univ _ _
      iexact H0
    iexact HR
  iapply (wp_load 𝒱₀ (c : Thread nD τ) none Set.univ (m := axrM) (S := Finset.univ) (Finset.subset_univ _)) $$ Hall; iintro Hall
  rw [show (axrM : Memref sig .tc .vmem S32x8x128 .f32).view.readAt (Elt F) (Rect.unit (s := S32x8x128) ![0, 0, 0] S32x8x128.size inb_S32x8x128_S32x8x128_0_0_0).toLoadRect (axv m c)
    = axv m c from Memref.readAt_unit_zero (Elt F) cc0_scratch5 zz3 _ _]
  iapply (wp_axSents m K c 31 1 le_rfl le_rfl) $$ [HCS HS HO]
  · isplitr; · iexact HK
    isplitr [HO]
    · rw [bigSep_sep']
      isplitl [HCS] <;> iassumption
    iexact HO
  iintro ⟨HR, HO⟩
  ihave HR := (bigSep_unsep _ _ _) $$ HR
  icases HR with ⟨HS, HR⟩
  iapply (wp_load 𝒱₀ (c : Thread nD τ) none Set.univ (m := outM) (S := Finset.univ) (Finset.subset_univ _)) $$ Hout; iintro Hout
  rw [show (outM : Memref sig .tc .vmem S128x8192 .f32).view.readAt (Elt F) (Rect.unit (s := S128x8192) ![0, 0] S128x8192.size inb_S128x8192_S128x8192_0_0).toLoadRect g
    = g from Memref.readAt_unit_zero (Elt F) cc0_stg2_0 zz2 _ _]
  iapply (wp_load 𝒱₀ (c : Thread nD τ) none Set.univ (m := outM) (S := Finset.univ) (Finset.subset_univ _)) $$ Hout; iintro Hout
  iapply (wp_store 𝒱₀ (c : Thread nD τ) none Set.univ (m := outM) (r := Rect.unit (s := S128x8192) ![0, 0] S128x8192.size inb_S128x8192_S128x8192_0_0) (Mk := Finset.univ) (S := Finset.univ) (Finset.subset_univ _)) $$ Hout; iintro Hout
  rw [show ((outM : Memref sig .tc .vmem S128x8192 .f32).access (Rect.unit (s := S128x8192) ![0, 0] S128x8192.size inb_S128x8192_S128x8192_0_0)).write (Elt F) g
      (k0_pay1 (k0_pay239 (k0_pay238 (axv m c))) (k0_pay240 (k0_pay238 (axv m c)) g)) Finset.univ
    = quant m c g from Memref.write_access_unit_zero_univ (Elt F) cc0_stg2_0 zz2 _ _ _]
  rw [wp_ret]
  iapply Hk
  isplitr [HO Hout]
  · unfold axEnd
    isplitl [Hrest Ht0 HR]
    · iexists (axPay (amax m c))
      iapply (Entails.of_eq (hax (axPay (amax m c))).symm)
      isplitl [Hrest]; · iexact Hrest
      isplitl [Ht0]; · iexact Ht0
      iapply (Entails.of_eq (bigSep_congr fun j _ => (hsrc j).symm)); iexact HR
    isplitl [Hall]; · iexists (axv m c); iexact Hall
    isplitl [HV]; · iexact HV
    iexact HS
  isplitl [HO]; · iexact HO
  iexact Hout

end Last

end Cert.Ring
-- ==== Proof.Families.lean ====
module

public import proofs.«01_k».proof.Proof.Finish

/-!
# The resources of a device as families

What a device starts from and ends with, as families over stripes, steps, distances and semaphores, and how
they come apart into what each step uses.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Families over numbers -/

theorem bigSep_fin (n : ℕ) (Φ : ℕ → sProp 𝕄) : bigSep Finset.univ (fun i : Fin n => Φ i.val) = bigSep (Finset.range n) Φ := by
  rw [← Nat.Iio_eq_range, ← Fin.map_valEmbedding_univ, BI.bigSep_map]; rfl

theorem bigSep_first (n : ℕ) (Φ : ℕ → sProp 𝕄) :
    bigSep (Finset.range (n + 1)) Φ = iprop(Φ 0 ∗ bigSep (Finset.range n) (fun i => Φ (i + 1))) := by
  rw [Finset.range_eq_Ico, bigSep_Ico_succ_bot (Nat.succ_pos n), Finset.range_eq_Ico,
    show Finset.Ico (0 + 1) (n + 1) = (Finset.Ico 0 n).map ⟨Nat.succ, Nat.succ_injective⟩ from ?_, BI.bigSep_map]
  · rfl
  · ext j
    simp only [Finset.mem_Ico, Finset.mem_map, Function.Embedding.coeFn_mk]
    constructor
    · intro h; exact ⟨j - 1, by omega, by omega⟩
    · rintro ⟨i, h, rfl⟩; omega

/-- A family over the distances, taken in another order. -/
theorem bigSep_reorder (j : ℕ → ℕ) (h : (Finset.range 31).image j = Finset.Ico 1 32) (Φ : ℕ → sProp 𝕄) :
    bigSep (Finset.Ico 1 32) Φ = bigSep (Finset.range 31) (fun i => Φ (j i)) := by
  have hi : Set.InjOn j (Finset.range 31) := Finset.card_image_iff.mp (by rw [h]; rfl)
  rw [← h, bigSep_image_of_injOn hi]

theorem all4_eq (Φ : Fin 4 → sProp 𝕄) : all4 Φ = bigSep Finset.univ Φ :=
  (bigSep_univ_eq_bigSepL [0, 1, 2, 3] (by decide) (by decide) Φ).symm

/-- One assertion for each of a stripe's six semaphores. -/
def six (Φ : KC → sProp 𝕄) (sid : Fin 4) : sProp 𝕄 :=
  iprop((Φ (some (.snd sid 0)) ∗ Φ (some (.snd sid 1))) ∗ (Φ (some (.rcv sid 0)) ∗ Φ (some (.rcv sid 1)))
    ∗ (Φ (some (.crd sid 0)) ∗ Φ (some (.crd sid 1))))

theorem bigSep_OC (Φ : OC → sProp 𝕄) :
    bigSep Finset.univ Φ = iprop(bigSep Finset.univ (fun p : Fin 4 × Fin 2 => Φ (.snd p.1 p.2)) ∗ bigSep Finset.univ (fun p : Fin 4 × Fin 2 => Φ (.rcv p.1 p.2))
      ∗ bigSep Finset.univ (fun p : Fin 4 × Fin 2 => Φ (.crd p.1 p.2)) ∗ bigSep Finset.univ (fun o => Φ (.axs o)) ∗ bigSep Finset.univ (fun o => Φ (.axr o))) := by
  rw [bigSep_univ_equiv ocEquiv.symm Φ, bigSep_univ_sum, bigSep_univ_sum, bigSep_univ_sum, bigSep_univ_sum]; rfl

theorem bigSep_KC' (Φ : KC → sProp 𝕄) : bigSep Finset.univ Φ = iprop(Φ none ∗ bigSep Finset.univ (fun k : OC => Φ (some k))) := by
  rw [bigSep_univ_equiv ((Equiv.sumComm _ _).trans (Equiv.optionEquivSumPUnit.{0} OC).symm) Φ, bigSep_univ_sum]
  rw [show (Finset.univ : Finset PUnit.{1}) = {⟨⟩} from rfl, bigSep_singleton]; rfl

theorem bigSep_pairs (Φ : Fin 4 → Fin 2 → sProp 𝕄) :
    bigSep Finset.univ (fun p : Fin 4 × Fin 2 => Φ p.1 p.2) = bigSep Finset.univ (fun sid => iprop(Φ sid 0 ∗ Φ sid 1)) := by
  rw [bigSep_univ_prod]; exact bigSep_congr fun sid _ => bigSep_fin_two _

/-- Three of six together. -/
theorem sep_group (H0 H1 H2 H3 H4 H5 : sProp 𝕄) :
    iprop(H0 ∗ H1 ∗ H2 ∗ H3 ∗ H4 ∗ H5) = iprop(H0 ∗ (H1 ∗ H2 ∗ H3) ∗ H4 ∗ H5) := by
  have h : iprop(H0 ∗ H1 ∗ H2 ∗ H3 ∗ H4 ∗ H5) ⊢ iprop(H0 ∗ (H1 ∗ H2 ∗ H3) ∗ H4 ∗ H5) := by
    iintro ⟨H0, ⟨H1, H2, H3, H4, H5⟩⟩
    isplitl [H0]; · iexact H0
    isplitl [H1 H2 H3]
    · isplitl [H1]; · iexact H1
      isplitl [H2] <;> iassumption
    isplitl [H4] <;> iassumption
  have h' : iprop(H0 ∗ (H1 ∗ H2 ∗ H3) ∗ H4 ∗ H5) ⊢ iprop(H0 ∗ H1 ∗ H2 ∗ H3 ∗ H4 ∗ H5) := by
    iintro ⟨H0, ⟨H1, H2, H3⟩, H4, H5⟩
    isplitl [H0]; · iexact H0
    isplitl [H1]; · iexact H1
    isplitl [H2]; · iexact H2
    isplitl [H3]; · iexact H3
    isplitl [H4] <;> iassumption
  exact BI.Entails.antisymm h h'

/-- A family over all a device's semaphores: the barrier, the stripes', those of the maxima. -/
theorem bigSep_KC (Φ : KC → sProp 𝕄) :
    bigSep Finset.univ Φ = iprop(Φ none ∗ all4 (six Φ) ∗ bigSep Finset.univ (fun o => Φ (some (.axs o))) ∗ bigSep Finset.univ (fun o => Φ (some (.axr o)))) := by
  rw [bigSep_KC', bigSep_OC, bigSep_pairs (fun sid b => Φ (some (.snd sid b))), bigSep_pairs (fun sid b => Φ (some (.rcv sid b))),
    bigSep_pairs (fun sid b => Φ (some (.crd sid b))), all4_eq]
  rw [show bigSep Finset.univ (six Φ) = iprop(bigSep Finset.univ (fun sid => iprop(Φ (some (.snd sid 0)) ∗ Φ (some (.snd sid 1))))
      ∗ bigSep Finset.univ (fun sid => iprop(Φ (some (.rcv sid 0)) ∗ Φ (some (.rcv sid 1))))
      ∗ bigSep Finset.univ (fun sid => iprop(Φ (some (.crd sid 0)) ∗ Φ (some (.crd sid 1))))) from (bigSep_sep' _ _ _).trans (congrArg _ (bigSep_sep' _ _ _))]
  exact sep_group _ _ _ _ _ _

/-! ## The slots of the buffers of maxima -/

theorem back_own (c : Dev nD) : back 32 c = c := by revert c; decide +kernel
theorem axD_of_gap (c t : Dev nD) : axD (gap c t) c = t := by revert c t; decide +kernel
theorem behind (c : Dev nD) : (Finset.range 31).image (fun i => (gap c (back (i + 1) c)).val) = Finset.Ico 1 32 := by revert c; decide +kernel
theorem before (c : Dev nD) : (Finset.range 31).image (fun i => (gap (back (i + 1) c) c).val) = Finset.Ico 1 32 := by revert c; decide +kernel
theorem ofNat_val (o : Fin 32) : Fin.ofNat 32 o.val = o := Fin.ext (Nat.mod_eq_of_lt o.isLt)

theorem gath_eq (v : Dev nD) : ∀ (n : ℕ) (c : Dev nD), (gath n c v : sProp 𝕄) = bigSep (Finset.range n) (fun i => axfree (back (i + 1) c) (gap v (back (i + 1) c)))
  | 0, c => rfl
  | n + 1, c => by
    rw [bigSep_first, gath_succ, gath_eq v n (bwdD c)]; rfl

/-- After the last copy a device holds the slots it writes its maximum to. -/
theorem extra_end (c : Dev nD) : (extra 0 31 c : sProp 𝕄) = bigSep (Finset.Ico 1 32) (fun j => axfree (axD (Fin.ofNat 32 j) c) (Fin.ofNat 32 j)) := by
  unfold extra
  rw [if_pos rfl, show 31 + 1 = 32 from rfl, back_own, gath_eq, bigSep_reorder _ (behind c)]
  exact bigSep_congr fun i _ => by rw [ofNat_val, axD_of_gap]

/-- Its own slots, in the order in which they go off. -/
theorem ownx_start (c : Dev nD) : (bigSep (Finset.Ico 1 32) (fun j => axfree c (Fin.ofNat 32 j)) : sProp 𝕄) = bigSep (Finset.range 31) (fun s => ownx 0 s c) := by
  rw [bigSep_reorder _ (before c)]
  exact bigSep_congr fun s _ => by unfold ownx; rw [if_pos rfl, ofNat_val]

theorem ownx_other (c : Dev nD) (sid : Fin 4) (h : sid ≠ 0) (s : ℕ) : (ownx sid s c : sProp 𝕄) = iprop(emp) := if_neg h

/-! ## What a device is dealt -/

/-- The tokens of the duties a device pays. -/
def sidToks (c : Dev nD) (sid : Fin 4) : sProp 𝕄 :=
  iprop(bigSep (Finset.range 31) (fun s => dutyTok ER (kcell c (some (.snd sid (par s)))) (s / 2) false)
    ∗ bigSep (Finset.range 31) (fun s => dutyTok ER (kcell (toD sid c) (some (.rcv sid (par (s + 1))))) (s / 2) false)
    ∗ bigSep (Finset.range 30) (fun s => dutyTok ER (kcell (fromD sid c) (some (.crd sid (par s)))) (s / 2) false))
def devToks (c : Dev nD) : sProp 𝕄 :=
  iprop(dutyTok ER (kcell (bwdD c) none) 0 false ∗ dutyTok ER (kcell (fwdD c) none) 0 true
    ∗ bigSep Finset.univ (sidToks c) ∗ bigSep (Finset.Ico 1 32) (fun j => axSendTok c (Fin.ofNat 32 j)))

/-- What others will credit to its semaphores. -/
def sidCreds (c : Dev nD) (sid : Fin 4) : sProp 𝕄 :=
  iprop(bigSep (Finset.range 31) (fun s => cred (tallyAt (kcell c (some (.rcv sid (par (s + 1))))) (s / 2) N))
    ∗ bigSep (Finset.range 30) (fun s => cred (tallyAt (kcell c (some (.crd sid (par s)))) (s / 2) 1)))
def devCreds (c : Dev nD) : sProp 𝕄 :=
  iprop(cred (tallyAt (kcell c none) 0 2) ∗ bigSep Finset.univ (sidCreds c)
    ∗ bigSep (Finset.Ico 1 32) (fun j => cred (tallyAt (kcell c (some (.axr (Fin.ofNat 32 j)))) 0 N')))

/-- Where it stands at each of its semaphores. -/
def devPos (c : Dev nD) : sProp 𝕄 := bigSep Finset.univ (fun k : KC => atPos ER (kcell c k) 0 ∅ 0)

/-- What a stripe's first copy uses up. -/
def seedTok (c : Dev nD) (sid : Fin 4) : sProp 𝕄 :=
  iprop(dutyTok ER (kcell c (some (.snd sid (par 0)))) (0 / 2) false
    ∗ dutyTok ER (kcell (toD sid c) (some (.rcv sid (par (0 + 1))))) (0 / 2) false ∗ ownx sid 0 c)

theorem toks_intro (c : Dev nD) (sid : Fin 4) : ∀ n s,
    iprop(bigSep (Finset.range n) (fun i => stepTok c sid (s + i)) ∗ cred (tallyAt (kcell c (some (.rcv sid (par (s + n + 1))))) ((s + n) / 2) N))
      ⊢ (toks c sid n s : sProp 𝕄)
  | 0, s => by
    rw [Finset.range_zero, bigSep_empty]
    show _ ⊢ cred (tallyAt (kcell c (some (.rcv sid (par (s + 1))))) (s / 2) N)
    iintro ⟨-, H⟩; iexact H
  | n + 1, s => by
    have ih := toks_intro c sid n (s + 1)
    rw [show s + 1 + n = s + (n + 1) by omega] at ih
    rw [bigSep_first]
    show _ ⊢ iprop(stepTok c sid s ∗ toks c sid n (s + 1))
    iintro ⟨⟨H0, HR⟩, HC⟩
    isplitl [H0]; · iexact H0
    iapply ih
    isplitl [HR]
    · iapply (Entails.of_eq (show bigSep (Finset.range n) (fun i => (stepTok c sid (s + (i + 1)) : sProp 𝕄)) = bigSep (Finset.range n) (fun i => stepTok c sid (s + 1 + i)) from
        bigSep_congr fun i _ => by rw [show s + (i + 1) = s + 1 + i by omega])); iexact HR
    iexact HC

/-- A stripe's share comes apart into what the first copy and each step use. -/
theorem sid_split (c : Dev nD) (sid : Fin 4) :
    iprop(sidToks c sid ∗ sidCreds c sid ∗ bigSep (Finset.range 31) (fun s => ownx sid s c)) ⊢ (iprop(seedTok c sid ∗ toks c sid 30 0) : sProp 𝕄) := by
  unfold sidToks sidCreds seedTok
  rw [bigSep_first 30 (fun s => dutyTok ER (kcell c (some (.snd sid (par s)))) (s / 2) false),
    bigSep_first 30 (fun s => dutyTok ER (kcell (toD sid c) (some (.rcv sid (par (s + 1))))) (s / 2) false),
    bigSep_first 30 (fun s => ownx sid s c),
    bigSep_range_succ 30 (fun s => (cred (tallyAt (kcell c (some (.rcv sid (par (s + 1))))) (s / 2) N) : sProp 𝕄))]
  iintro ⟨⟨⟨S0, S⟩, ⟨V0, V⟩, C⟩, ⟨⟨CVl, CV⟩, CC⟩, ⟨X0, X⟩⟩
  isplitl [S0 V0 X0]
  · isplitl [S0]; · iexact S0
    isplitl [V0] <;> iassumption
  iapply (toks_intro c sid 30 0)
  rw [show 0 + 30 = 30 from rfl]
  isplitr [CVl]
  · unfold stepTok
    rw [bigSep_sep', bigSep_sep', bigSep_sep', bigSep_sep', bigSep_sep']
    simp only [Nat.zero_add]
    isplitl [C]; · iexact C
    isplitl [V]
    · iapply (Entails.of_eq (show bigSep (Finset.range 30) (fun s => (dutyTok ER (kcell (toD sid c) (some (.rcv sid (par (s + 1 + 1))))) ((s + 1) / 2) false : sProp 𝕄))
        = bigSep (Finset.range 30) (fun s => dutyTok ER (kcell (toD sid c) (some (.rcv sid (par s)))) ((s + 1) / 2) false) from
        bigSep_congr fun s _ => by rw [show s + 1 + 1 = s + 2 from rfl, par_two])); iexact V
    isplitl [S]; · iexact S
    isplitl [CV]; · iexact CV
    isplitl [CC]; · iexact CC
    iexact X
  iexact CVl

/-! ## Where a device's semaphores end -/

/-- The first round of a semaphore that is not used. -/
def lastR : KC → ℕ
  | none => 1
  | some (.snd _ b) => 16 - b.val
  | some (.rcv _ b) => 15 + b.val
  | some (.crd _ _) => 15
  | some (.axs o) => if o = 0 then 0 else 1
  | some (.axr o) => if o = 0 then 0 else 1

section Close
variable (m : (ℓ : Loc nD τ sig) → Buf (Elt F) ℓ) (K : Dev nD × KC → ℕ)

theorem duties_last (c : Dev nD) (k : KC) : ∀ r, lastR k ≤ r → (ringRd (F := F) m).duties (kcell c k) r = ∅ := by
  intro r hr
  rw [duties_eq]
  rcases k with _ | (⟨sid, b⟩ | ⟨sid, b⟩ | ⟨sid, b⟩ | o | o)
  · exact if_neg (by show ¬ r = 0; have : 1 ≤ r := hr; omega)
  · have hb := b.isLt
    have h : 16 - b.val ≤ r := hr
    exact if_neg (by simp only [live]; omega)
  · have hb := b.isLt
    have h : 15 + b.val ≤ r := hr
    exact if_neg (by simp only [live]; omega)
  · have hb := b.isLt
    have h : 15 ≤ r := hr
    exact if_neg (by simp only [live]; omega)
  all_goals
    refine if_neg ?_
    simp only [live, lastR] at hr ⊢
    split at hr
    · rename_i h; exact fun h' => h'.2 h
    · omega

/-- Every semaphore closes at zero. -/
theorem close_all (c : Dev nD) :
    iprop(know m K ∗ bigSep Finset.univ (fun k : KC => atPos ER (kcell c k) (lastR k) ∅ 0))
      ⊢ |={Set.univ}=> bigSep Finset.univ (fun k : KC => (semVal (kcell c k) 0 : sProp 𝕄)) :=
  (bigSep_with_persistent (R := know m K) (Ψ := fun k : KC => iprop(|={Set.univ}=> semVal (kcell c k) 0)) fun k _ =>
    (sep_mono_left (know_inv m K c k)).trans
      (Rounds.cell_close ER (ringRd m) (Set.mem_univ (K (c, k))) (fun h => h) (R := lastR k) (duties_last m c k))).trans
    (bigSep_fupd _ _)

end Close

end Cert.Ring
-- ==== Proof.Body.lean ====
module

public import proofs.«01_k».proof.Proof.Families

/-!
# The whole body

From what a device is dealt to what it ends with: the barrier, the first copies, the thirty steps, the last
step, the exchange of the maxima, and every semaphore closed at zero.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Body
variable (m : (ℓ : Loc nD τ sig) → Buf (Elt F) ℓ) (K : Dev nD × KC → ℕ)

/-! ## What a device owes -/

/-- What a stripe's first copy pays, on top of `O`. -/
def seedO (c : Dev nD) (sid : Fin 4) (O : CellTallies nD τ sig ℕ) : CellTallies nD τ sig ℕ :=
  O + tallyAt (kcell (toD sid c) (some (.rcv sid (par (0 + 1))))) (0 / 2) N
/-- What is paid after the first copies; after the barrier; and in all. -/
def afterO (c : Dev nD) : CellTallies nD τ sig ℕ := stepsO c 30 0 (axO c 31 1)
def seedsO (c : Dev nD) : CellTallies nD τ sig ℕ := seedO c 0 (seedO c 1 (seedO c 2 (seedO c 3 (afterO c))))
def O₀ (c : Dev nD) : CellTallies nD τ sig ℕ := seedsO c + tallyAt (kcell (fwdD c) none) 0 1 + tallyAt (kcell (bwdD c) none) 0 1

theorem Above.seed (c : Dev nD) (sid : Fin 4) {O : CellTallies nD τ sig ℕ} (hO : Above 1 O) : Above 1 (seedO c sid O) :=
  hO.add (Above.tally _ _ _ _ (by decide) (by show 1 < 10 * (2 * 0 + 2 - 1); decide))
theorem Above.seeds (c : Dev nD) : Above 1 (seedsO c) :=
  (((((Above.steps c (Above.ax c 31 1) 30 0 le_rfl).mono (by decide)).seed c 3).seed c 2).seed c 1).seed c 0
theorem Above.start (c : Dev nD) : Above 0 (O₀ c) :=
  (((Above.seeds c).mono (by decide)).add (Above.tally _ _ _ _ (by decide) (by decide))).add (Above.tally _ _ _ _ (by decide) (by decide))

/-! ## The four stripes together -/

theorem all4_sep (Φ Ψ : Fin 4 → sProp 𝕄) : all4 (fun s => iprop(Φ s ∗ Ψ s)) = iprop(all4 Φ ∗ all4 Ψ) := by
  rw [all4_eq, all4_eq, all4_eq, bigSep_sep']
theorem all4_mono {Φ Ψ : Fin 4 → sProp 𝕄} (h : ∀ s, Φ s ⊢ Ψ s) : all4 Φ ⊢ all4 Ψ := by
  rw [all4_eq, all4_eq]; exact bigSep_mono fun s _ => h s

/-! ## The barrier -/

theorem from_fwd (sid : Fin 4) (h : sid.val % 2 = 0) (c : Dev nD) : fromD sid c = bwdD c := if_pos h
theorem from_bwd (sid : Fin 4) (h : ¬ sid.val % 2 = 0) (c : Dev nD) : fromD sid c = fwdD c := if_neg h

/-- A device's second slot of a stripe is what its sender waits for first. -/
theorem crd_first (c : Dev nD) (sid : Fin 4) : iprop(know m K ∗ free c sid 1) ⊢ crdPay (fromD sid c) sid 0 := by
  unfold crdPay
  rw [to_from]
  iintro ⟨HK, Hf⟩
  isplitl [Hf]; · iexact Hf
  iapply (know_reached m K c (some (.rcv sid (par (0 + 1))))); iexact HK

theorem pay_false (c : Dev nD) : (ringRd (F := F) m).payload (kcell (bwdD c) none) 0 false = iprop(crdPay (bwdD c) 0 0 ∗ crdPay (bwdD c) 2 0) := by
  rw [payload_eq]; show barPay (bwdD c) false = _; unfold barPay; exact if_neg Bool.false_ne_true
theorem pay_true (c : Dev nD) : (ringRd (F := F) m).payload (kcell (fwdD c) none) 0 true = iprop(crdPay (fwdD c) 1 0 ∗ crdPay (fwdD c) 3 0) := by
  rw [payload_eq]; show barPay (fwdD c) true = _; unfold barPay; exact if_pos rfl

theorem wp_bar (c : Dev nD) {k : P F} {Q : PUnit.{1} → sProp 𝕄} :
    iprop(know m K ∗ dutyTok ER (kcell (bwdD c) none) 0 false ∗ dutyTok ER (kcell (fwdD c) none) 0 true ∗ all4 (fun sid => free c sid 1)
        ∗ cred (tallyAt (kcell c none) 0 2) ∗ atPos ER (kcell c none) 0 ∅ 0 ∗ owe c (O₀ c))
      ⊢ iprop(((all4 (fun sid => crdPay c sid 0) ∗ atPos ER (kcell c none) 1 ∅ 0 ∗ owe c (seedsO c)) -∗ WP c k Q) -∗ WP c (barP c k) Q) := by
  have h0 := crd_first m K c 0; rw [from_fwd 0 (by decide)] at h0
  have h1 := crd_first m K c 1; rw [from_bwd 1 (by decide)] at h1
  have h2 := crd_first m K c 2; rw [from_fwd 2 (by decide)] at h2
  have h3 := crd_first m K c 3; rw [from_bwd 3 (by decide)] at h3
  have hmv : levs F ⊢ MayWait (c : Thread nD τ) (.reg barS) 0 (seedsO c) :=
    mayWait (Above.seeds c) c (.reg barS) 0 (by decide) (lv_kcell c none 0).le
  have hmw := (know_lev m K).trans hmv
  have hrest := rest_bar (F := F) m c
  unfold barPay at hrest
  rw [if_neg Bool.false_ne_true, if_pos rfl] at hrest
  unfold all4 owe barP
  iintro ⟨#HK, HtB, HtF, ⟨F0, F1, F2, F3⟩, HcB, HatB, ⟨%W, HO⟩⟩ Hk
  iapply (Rounds.wp_signal 𝒱₀ ER (ringRd m) (c : Thread nD τ) none (dst := (bwdD c : Thread nD τ)) (sem := barS)
      (κ := K (bwdD c, none)) (d := false) (r := 0) (mem_duties_bar m (bwdD c) false) (amount_eq m (bwdD c) none _ _) 0
      (seedsO c + tallyAt (kcell (fwdD c) none) 0 1) rfl) $$ [HO HtB F0 F2]
  · isplitr; · iapply (know_inv m K (bwdD c) none); iexact HK
    isplitl [HO]; · iexact HO
    isplitl [HtB]; · iexact HtB
    isplitl [F0 F2]
    · iapply (Entails.of_eq (pay_false m c).symm)
      isplitl [F0]
      · iapply h0
        isplitr; · iexact HK
        iexact F0
      iapply h2
      isplitr; · iexact HK
      iexact F2
    iapply (know_reached m K (bwdD c) none); iexact HK
  iintro HO
  iapply (Rounds.wp_signal 𝒱₀ ER (ringRd m) (c : Thread nD τ) none (dst := (fwdD c : Thread nD τ)) (sem := barS)
      (κ := K (fwdD c, none)) (d := true) (r := 0) (mem_duties_bar m (fwdD c) true) (amount_eq m (fwdD c) none _ _) 0
      (seedsO c) rfl) $$ [HO HtF F1 F3]
  · isplitr; · iapply (know_inv m K (fwdD c) none); iexact HK
    isplitl [HO]; · iexact HO
    isplitl [HtF]; · iexact HtF
    isplitl [F1 F3]
    · iapply (Entails.of_eq (pay_true m c).symm)
      isplitl [F1]
      · iapply h1
        isplitr; · iexact HK
        iexact F1
      iapply h3
      isplitr; · iexact HK
      iexact F3
    iapply (know_reached m K (fwdD c) none); iexact HK
  iintro HO
  iapply (Rounds.wp_wait_rest_token 𝒱₀ ER (ringRd m) (c : Thread nD τ) none (κ := K (c, none))
      (wpE_semWait_eq 𝒱₀ (c : Thread nD τ) none Set.univ) (Set.mem_univ _) 0 (O := seedsO c) (W := W)
      (R := 0) (m := 0) (T := ∅) ((Nat.zero_add _).trans (expect_bar m c).symm)) $$ [HcB HO HatB]
  · isplitr; · iapply (know_inv m K c none); iexact HK
    isplitl [HcB]; · iexact HcB
    isplitl [HO]; · iexact HO
    isplitr
    · iapply hmw; iexact HK
    iexact HatB
  iintro ⟨HO, HatB, -, Hpay⟩
  ihave Hp := (Entails.of_eq hrest) $$ Hpay
  icases Hp with ⟨⟨C0, C2⟩, C1, C3⟩
  iapply Hk
  isplitl [C0 C1 C2 C3]
  · isplitl [C0]; · iexact C0
    isplitl [C1]; · iexact C1
    isplitl [C2] <;> iassumption
  isplitl [HatB]; · iexact HatB
  iexists _; iexact HO

/-! ## The first copies -/

theorem extra_zero (sid : Fin 4) (c : Dev nD) : iprop(emp) ⊢ (extra sid 0 c : sProp 𝕄) := by
  unfold extra
  split <;> exact Entails.refl _

theorem wp_seed (c : Dev nD) (sid : Fin 4) {O : CellTallies nD τ sig ℕ} {k : P F} {Q : PUnit.{1} → sProp 𝕄} :
    iprop(know m K ∗ args m c ∗ free c sid 0 ∗ crdPay c sid 0 ∗ seedTok c sid ∗ six (fun k => atPos ER (kcell c k) 0 ∅ 0) sid ∗ owe c (seedO c sid O))
      ⊢ iprop(((args m c ∗ flight c sid 0 ∗ owe c O) -∗ WP c k Q) -∗ WP c (seedP c sid k) Q) := by
  unfold args seedTok six seedP
  iintro ⟨#HK, ⟨Hx, Hw⟩, Hf, Hp, ⟨HtS, HtV, Ho⟩, ⟨⟨S0, S1⟩, ⟨V0, V1⟩, C0, C1⟩, HO⟩ Hk
  iapply (wp_load 𝒱₀ (c : Thread nD τ) none Set.univ (m := xM) (S := Finset.univ) (Finset.subset_univ _)) $$ Hx; iintro Hx
  iapply (wp_load 𝒱₀ (c : Thread nD τ) none Set.univ (m := wM) (S := Finset.univ) (Finset.subset_univ _)) $$ Hw; iintro Hw
  iapply (wp_ldAcc_free c sid 0) $$ Hf; iintro Hf
  iapply (wp_stAcc c sid 0) $$ Hf; iintro Hf
  iapply (wp_sendAcc m K c sid (s := 0) (Nat.zero_le _) O (O₀ := seedO c sid O) rfl) $$ [Hf Hp HO HtS HtV Ho]
  · isplitr; · iexact HK
    isplitl [Hf]; · iexact Hf
    isplitl [Hp]; · iexact Hp
    isplitl [HO]; · iexact HO
    isplitl [HtS]; · iexact HtS
    isplitr; · iapply (know_reached m K c (some (.snd sid (par 0)))); iexact HK
    isplitl [HtV]; · iexact HtV
    isplitr; · iapply (know_reached m K c (some (.crd sid (par 0)))); iexact HK
    isplitr [Ho]
    · iapply (extra_zero sid c); iempintro
    iexact Ho
  iintro ⟨Hc, HO⟩
  iapply Hk
  isplitl [Hx Hw]
  · isplitl [Hx] <;> iassumption
  isplitr [HO]
  · unfold flight
    isplitl [Hc]; · iexact Hc
    isplitl [V1]; · iexact V1
    isplitl [V0]; · iexact V0
    isplitl [S0]; · iexact S0
    isplitl [S1]; · iexact S1
    isplitl [C0]; · iexact C0
    isplitl [C1]; · iexact C1
    isplitr; · iapply (know_reached m K c (some (.rcv sid 0))); iexact HK
    isplitr; · iapply (know_reached m K c (some (.snd sid 1))); iexact HK
    iapply (know_reached m K c (some (.crd sid 1))); iexact HK
  iexact HO

/-! ## The result -/

/-- The stripe a column lies in, and its place there. -/
def colSid (j : ℕ) : Fin 4 := ⟨2 * (j / 2048 % 2) + j / 2048 / 2 % 2, by omega⟩
def colIdx (i : S128x8192.Idx) : S128x2048.Idx :=
  fun a => match a with
    | ⟨0, _⟩ => ⟨(i 0).val, (i 0).isLt⟩
    | ⟨1, _⟩ => ⟨(i 1).val % 2048, Nat.mod_lt _ (by decide)⟩

/-- The product before quantisation on device `c`, and the kernel's result. -/
def yv (c : Dev nD) : (cc0_stg2_0 : Ref sig .tc).ty.Contents (Elt F) := fun i => outv m c (colSid (i 1).val) (colIdx i)
def outFin (c : Dev nD) : (cc0_stg2_0 : Ref sig .tc).ty.Contents (Elt F) := quant m c (yv m c)

theorem col_iff {a s : ℕ} (ha : a < 8192) (hs : s < 4) :
    (4096 * (s % 2) + 2048 * (s / 2) ≤ a ∧ a < 4096 * (s % 2) + 2048 * (s / 2) + 2048) ↔ 2 * (a / 2048 % 2) + a / 2048 / 2 % 2 = s := by
  have h : s = 0 ∨ s = 1 ∨ s = 2 ∨ s = 3 := by omega
  rcases h with rfl | rfl | rfl | rfl <;> omega

theorem mem_outR (sid : Fin 4) (i : S128x8192.Idx) : i ∈ (outM.access (outR sid)).set ↔ colSid (i 1).val = sid := by
  show i ∈ ((View.whole cc0_stg2_0).slice (outR sid)).set ↔ _
  rw [View.set_slice_whole, Rect.mem_set_unit]
  have hc := col_iff (i 1).isLt sid.isLt
  constructor
  · intro h
    exact Fin.ext (hc.mp (h 1))
  · intro h a
    fin_cases a
    · exact ⟨Nat.zero_le _, lt_of_lt_of_eq (i 0).isLt (Nat.zero_add _).symm⟩
    · exact hc.mpr (congrArg Fin.val h)

theorem stOut_at (c : Dev nD) (sid : Fin 4) (g : (cc0_stg2_0 : Ref sig .tc).ty.Contents (Elt F)) (i : S128x8192.Idx) :
    stOut m c sid g i = if colSid (i 1).val = sid then outv m c sid (colIdx i) else g i := by
  split
  · rename_i h
    obtain ⟨x, hx⟩ := View.exists_of_mem_set_slice ((mem_outR sid i).mpr h)
    have he : ∀ a, (i a).val = (![0, colOf sid] : Fin 2 → ℕ) a + (x a).val := fun a => by
      rw [← hx]; exact ValueKit.view_emb_slice_whole_unit_val cc0_stg2_0 (![0, colOf sid]) S128x2048.size (inb_col sid) x a
    have hx' : colIdx i = x := by
      funext a
      refine Fin.ext ?_
      fin_cases a
      · have h0 : (i 0).val = 0 + (x 0).val := he 0
        show (i 0).val = (x 0).val
        omega
      · have h1 : (i 1).val = colOf sid + (x 1).val := he 1
        have hl : (x 1).val < 2048 := (x 1).isLt
        unfold colOf at h1
        show (i 1).val % 2048 = (x 1).val
        omega
    rw [hx']
    unfold stOut
    conv_lhs => rw [← hx]
    exact View.write_emb_of_mem (v := outM.access (outR sid)) _ _ (Finset.mem_univ x)
  · rename_i h
    exact View.write_of_not_mem (v := outM.access (outR sid)) _ _ _ (fun h' => h ((mem_outR sid i).mp h'))

theorem stOut_all (c : Dev nD) (g : (cc0_stg2_0 : Ref sig .tc).ty.Contents (Elt F)) :
    stOut m c 3 (stOut m c 2 (stOut m c 1 (stOut m c 0 g))) = yv m c := by
  funext i
  rw [stOut_at, stOut_at, stOut_at, stOut_at]
  unfold yv
  generalize colSid (i 1).val = s
  fin_cases s <;> rfl

/-! ## The body -/

/-- What a device ends with. -/
def bodyEnd (c : Dev nD) : sProp 𝕄 :=
  iprop(args m c ∗ owe c 0
    ∗ (∃ f : Buf (Elt F) ((c : Thread nD τ).loc cc0_scratch0), (c : Thread nD τ).loc cc0_scratch0 ↦{fullShare} f)
    ∗ (∃ f : Buf (Elt F) ((c : Thread nD τ).loc cc0_scratch4), (c : Thread nD τ).loc cc0_scratch4 ↦{fullShare} f)
    ∗ (∃ f : Buf (Elt F) ((c : Thread nD τ).loc cc0_scratch5), (c : Thread nD τ).loc cc0_scratch5 ↦{fullShare} f)
    ∗ outPts c (outFin m c) ∗ bigSep Finset.univ (fun k : KC => semVal (kcell c k) 0))

theorem ownx_all (c : Dev nD) : bigSep (Finset.range 31) (fun s => ownx 0 s c) ⊢ (all4 (fun sid => bigSep (Finset.range 31) (fun s => ownx sid s c)) : sProp 𝕄) := by
  have h (sid : Fin 4) (hs : sid ≠ 0) : (bigSep (Finset.range 31) (fun s => ownx sid s c) : sProp 𝕄) = iprop(emp) :=
    (bigSep_congr fun s _ => ownx_other c sid hs s).trans (bigSep_emp_const _)
  unfold all4
  dsimp only
  rw [h 1 (by decide), h 2 (by decide), h 3 (by decide)]
  iintro H
  isplitl; · iexact H
  isplitr; · iempintro
  isplitr <;> iempintro

/-- A device's share comes apart by stripes. -/
theorem shares (c : Dev nD) :
    iprop(bigSep Finset.univ (sidToks c) ∗ bigSep Finset.univ (sidCreds c) ∗ bigSep (Finset.Ico 1 32) (fun j => axfree c (Fin.ofNat 32 j)))
      ⊢ (iprop(all4 (seedTok c) ∗ all4 (fun sid => toks c sid 30 0)) : sProp 𝕄) := by
  have h := all4_mono (F := F) (sid_split c)
  rw [all4_sep, all4_sep (sidCreds c), all4_sep (seedTok c)] at h
  refine BIBase.Entails.trans ?_ h
  rw [← all4_eq, ← all4_eq, ownx_start]
  iintro ⟨H1, H2, H3⟩
  isplitl [H1]; · iexact H1
  isplitl [H2]; · iexact H2
  iapply (ownx_all c); iexact H3

theorem acc_open (c : Dev nD) (f : Buf (Elt F) ((c : Thread nD τ).loc cc0_scratch0)) :
    ((c : Thread nD τ).loc cc0_scratch0 ↦{fullShare} f : sProp 𝕄) ⊢ iprop(all4 (fun sid => free c sid 0) ∗ all4 (fun sid => free c sid 1)) := by
  refine (acc_split c f).trans (Entails.of_eq ?_)
  rw [bigSep_pairs (fun sid b => free c sid b), ← all4_eq, all4_sep]
theorem acc_shut (c : Dev nD) (f₀ : Buf (Elt F) ((c : Thread nD τ).loc cc0_scratch0)) :
    iprop(all4 (fun sid => free c sid 0) ∗ all4 (fun sid => free c sid 1)) ⊢ (iprop(∃ f, (c : Thread nD τ).loc cc0_scratch0 ↦{fullShare} f) : sProp 𝕄) := by
  refine (Entails.of_eq ?_).trans (acc_join c f₀)
  rw [bigSep_pairs (fun sid b => free c sid b), ← all4_eq, all4_sep]

theorem ended_split (c : Dev nD) (sid : Fin 4) :
    (ended c sid : sProp 𝕄) ⊢ iprop(free c sid 0 ∗ free c sid 1 ∗ six (fun k => atPos ER (kcell c k) (lastR k) ∅ 0) sid ∗ extra sid 31 c) := by
  unfold ended six
  iintro ⟨F0, F1, S0, S1, V0, V1, C0, C1, He⟩
  isplitl [F0]; · iexact F0
  isplitl [F1]; · iexact F1
  isplitr [He]
  · isplitl [S0 S1]
    · isplitl [S0]; · iexact S0
      iexact S1
    isplitl [V0 V1]
    · isplitl [V0]; · iexact V0
      iexact V1
    isplitl [C0]; · iexact C0
    iexact C1
  iexact He

theorem ended_all (c : Dev nD) :
    (all4 (ended c) : sProp 𝕄) ⊢ iprop(all4 (fun sid => free c sid 0) ∗ all4 (fun sid => free c sid 1)
      ∗ all4 (six (fun k => atPos ER (kcell c k) (lastR k) ∅ 0)) ∗ extra 0 31 c) := by
  refine (all4_mono (ended_split c)).trans ?_
  rw [all4_sep, all4_sep, all4_sep]
  iintro ⟨F0, F1, H6, He⟩
  isplitl [F0]; · iexact F0
  isplitl [F1]; · iexact F1
  isplitl [H6]; · iexact H6
  unfold all4
  icases He with ⟨He, -, -, -⟩
  iexact He

/-- The positions at the start, one semaphore after the other, and at the end. -/
theorem pos_start (c : Dev nD) :
    (devPos c : sProp 𝕄) = iprop(atPos ER (kcell c none) 0 ∅ 0 ∗ all4 (six (fun k => atPos ER (kcell c k) 0 ∅ 0))
      ∗ (atPos ER (kcell c (some (.axs 0))) 0 ∅ 0 ∗ bigSep (Finset.Ico 1 32) (fun j => atPos ER (kcell c (some (.axs (Fin.ofNat 32 j)))) 0 ∅ 0))
      ∗ (atPos ER (kcell c (some (.axr 0))) 0 ∅ 0 ∗ bigSep (Finset.Ico 1 32) (fun j => atPos ER (kcell c (some (.axr (Fin.ofNat 32 j)))) 0 ∅ 0))) := by
  unfold devPos
  rw [bigSep_KC, bigSep_dist (fun o => atPos ER (kcell c (some (.axs o))) 0 ∅ 0), bigSep_dist (fun o => atPos ER (kcell c (some (.axr o))) 0 ∅ 0)]

theorem pos_end (c : Dev nD) :
    iprop(atPos ER (kcell c none) 1 ∅ 0 ∗ all4 (six (fun k => atPos ER (kcell c k) (lastR k) ∅ 0))
      ∗ (atPos ER (kcell c (some (.axs 0))) 0 ∅ 0 ∗ bigSep (Finset.Ico 1 32) (fun j => atPos ER (kcell c (some (.axs (Fin.ofNat 32 j)))) 1 ∅ 0))
      ∗ (atPos ER (kcell c (some (.axr 0))) 0 ∅ 0 ∗ bigSep (Finset.Ico 1 32) (fun j => atPos ER (kcell c (some (.axr (Fin.ofNat 32 j)))) 1 ∅ 0)))
    = (bigSep Finset.univ (fun k : KC => atPos ER (kcell c k) (lastR k) ∅ 0) : sProp 𝕄) := by
  have hn (j : ℕ) (hj : j ∈ Finset.Ico 1 32) : Fin.ofNat 32 j ≠ 0 :=
    ofNat_ne_zero (Finset.mem_Ico.mp hj).1 (by have := (Finset.mem_Ico.mp hj).2; omega)
  have hs : (bigSep (Finset.Ico 1 32) (fun j => atPos ER (kcell c (some (.axs (Fin.ofNat 32 j)))) 1 ∅ 0) : sProp 𝕄)
      = bigSep (Finset.Ico 1 32) (fun j => atPos ER (kcell c (some (.axs (Fin.ofNat 32 j)))) (lastR (some (.axs (Fin.ofNat 32 j)))) ∅ 0) :=
    bigSep_congr fun j hj => by rw [show lastR (some (.axs (Fin.ofNat 32 j))) = 1 from if_neg (hn j hj)]
  have hr : (bigSep (Finset.Ico 1 32) (fun j => atPos ER (kcell c (some (.axr (Fin.ofNat 32 j)))) 1 ∅ 0) : sProp 𝕄)
      = bigSep (Finset.Ico 1 32) (fun j => atPos ER (kcell c (some (.axr (Fin.ofNat 32 j)))) (lastR (some (.axr (Fin.ofNat 32 j)))) ∅ 0) :=
    bigSep_congr fun j hj => by rw [show lastR (some (.axr (Fin.ofNat 32 j))) = 1 from if_neg (hn j hj)]
  rw [bigSep_KC, bigSep_dist (fun o => atPos ER (kcell c (some (.axs o))) (lastR (some (.axs o))) ∅ 0),
    bigSep_dist (fun o => atPos ER (kcell c (some (.axr o))) (lastR (some (.axr o))) ∅ 0), hs, hr]
  rfl

theorem wp_body (c : Dev nD) (g : (cc0_stg2_0 : Ref sig .tc).ty.Contents (Elt F)) {Q : PUnit.{1} → sProp 𝕄} :
    iprop(know m K ∗ devPos c ∗ devToks c ∗ devCreds c ∗ args m c ∗ owe c (O₀ c)
        ∗ (∃ f : Buf (Elt F) ((c : Thread nD τ).loc cc0_scratch0), (c : Thread nD τ).loc cc0_scratch0 ↦{fullShare} f)
        ∗ (∃ f : Buf (Elt F) ((c : Thread nD τ).loc cc0_scratch4), (c : Thread nD τ).loc cc0_scratch4 ↦{fullShare} f)
        ∗ (∃ f : Buf (Elt F) ((c : Thread nD τ).loc cc0_scratch5), (c : Thread nD τ).loc cc0_scratch5 ↦{fullShare} f)
        ∗ outPts c g)
      ⊢ iprop((bodyEnd m c -∗ Q ⟨⟩) -∗ WP c bodyP Q) := by
  rw [pos_start]
  unfold devToks devCreds bodyP
  simp only [wp_deviceId]
  iintro ⟨#HK, ⟨HatB, H6, ⟨HS0, HS⟩, ⟨HV0, HV⟩⟩, ⟨HtB, HtF, HT, HTx⟩, ⟨HcB, HC, HCx⟩, Ha, HO, ⟨%fa, Hacc⟩, Hax, ⟨%fr, Haxr⟩, Hout⟩ Hk
  ihave Haxr := (axr_split c fr) $$ Haxr
  ihave Haxr := (Entails.of_eq (bigSep_dist (fun o => (axfree c o : sProp 𝕄)))) $$ Haxr
  icases Haxr with ⟨Hx0, Hx⟩
  ihave Hacc := (acc_open c fa) $$ Hacc
  icases Hacc with ⟨HF0, HF1⟩
  ihave HT := (shares c) $$ [HT HC Hx]
  · isplitl [HT]; · iexact HT
    isplitl [HC] <;> iassumption
  icases HT with ⟨HT0, HT⟩
  iapply (wp_bar m K c) $$ [HtB HtF HF1 HcB HatB HO]
  · isplitr; · iexact HK
    isplitl [HtB]; · iexact HtB
    isplitl [HtF]; · iexact HtF
    isplitl [HF1]; · iexact HF1
    isplitl [HcB]; · iexact HcB
    isplitl [HatB] <;> iassumption
  iintro ⟨HP, HatB, HO⟩
  unfold all4
  icases HF0 with ⟨F0, F1, F2, F3⟩
  icases HP with ⟨P0, P1, P2, P3⟩
  icases HT0 with ⟨T0, T1, T2, T3⟩
  icases H6 with ⟨A0, A1, A2, A3⟩
  unfold seedsO
  iapply (wp_seed m K c 0) $$ [Ha F0 P0 T0 A0 HO]
  · isplitr; · iexact HK
    isplitl [Ha]; · iexact Ha
    isplitl [F0]; · iexact F0
    isplitl [P0]; · iexact P0
    isplitl [T0]; · iexact T0
    isplitl [A0] <;> iassumption
  iintro ⟨Ha, L0, HO⟩
  iapply (wp_seed m K c 1) $$ [Ha F1 P1 T1 A1 HO]
  · isplitr; · iexact HK
    isplitl [Ha]; · iexact Ha
    isplitl [F1]; · iexact F1
    isplitl [P1]; · iexact P1
    isplitl [T1]; · iexact T1
    isplitl [A1] <;> iassumption
  iintro ⟨Ha, L1, HO⟩
  iapply (wp_seed m K c 2) $$ [Ha F2 P2 T2 A2 HO]
  · isplitr; · iexact HK
    isplitl [Ha]; · iexact Ha
    isplitl [F2]; · iexact F2
    isplitl [P2]; · iexact P2
    isplitl [T2]; · iexact T2
    isplitl [A2] <;> iassumption
  iintro ⟨Ha, L2, HO⟩
  iapply (wp_seed m K c 3) $$ [Ha F3 P3 T3 A3 HO]
  · isplitr; · iexact HK
    isplitl [Ha]; · iexact Ha
    isplitl [F3]; · iexact F3
    isplitl [P3]; · iexact P3
    isplitl [T3]; · iexact T3
    isplitl [A3] <;> iassumption
  iintro ⟨Ha, L3, HO⟩
  unfold afterO
  iapply (wp_steps m K c (Above.ax c 31 1) 30 0 le_rfl) $$ [Ha L0 L1 L2 L3 HT HO]
  · unfold all4
    isplitr; · iexact HK
    isplitl [Ha]; · iexact Ha
    isplitl [L0 L1 L2 L3]
    · isplitl [L0]; · iexact L0
      isplitl [L1]; · iexact L1
      isplitl [L2] <;> iassumption
    isplitl [HT]; · iexact HT
    iexact HO
  unfold all4
  iintro ⟨Ha, ⟨L0, L1, L2, L3⟩, ⟨T0, T1, T2, T3⟩, HO⟩
  unfold lastP
  iapply (wp_chunk m c 31 0) $$ Ha; iintro Ha
  iapply (wp_chunk m c 31 1) $$ Ha; iintro Ha
  iapply (wp_fin m K c 0 (Above.ax c 31 1) g) $$ [L0 T0 HO Hout]
  · isplitr; · iexact HK
    isplitl [L0]; · iexact L0
    isplitl [T0]; · iexact T0
    isplitl [HO] <;> iassumption
  iintro ⟨E0, HO, Hout⟩
  iapply (wp_fin m K c 1 (Above.ax c 31 1) (stOut m c 0 g)) $$ [L1 T1 HO Hout]
  · isplitr; · iexact HK
    isplitl [L1]; · iexact L1
    isplitl [T1]; · iexact T1
    isplitl [HO] <;> iassumption
  iintro ⟨E1, HO, Hout⟩
  iapply (wp_fin m K c 2 (Above.ax c 31 1) (stOut m c 1 (stOut m c 0 g))) $$ [L2 T2 HO Hout]
  · isplitr; · iexact HK
    isplitl [L2]; · iexact L2
    isplitl [T2]; · iexact T2
    isplitl [HO] <;> iassumption
  iintro ⟨E2, HO, Hout⟩
  iapply (wp_fin m K c 3 (Above.ax c 31 1) (stOut m c 2 (stOut m c 1 (stOut m c 0 g)))) $$ [L3 T3 HO Hout]
  · isplitr; · iexact HK
    isplitl [L3]; · iexact L3
    isplitl [T3]; · iexact T3
    isplitl [HO] <;> iassumption
  iintro ⟨E3, HO, Hout⟩
  rw [stOut_all]
  ihave HE := (ended_all c) $$ [E0 E1 E2 E3]
  · unfold all4
    isplitl [E0]; · iexact E0
    isplitl [E1]; · iexact E1
    isplitl [E2] <;> iassumption
  icases HE with ⟨HF0, HF1, H6, He⟩
  ihave Hacc := (acc_shut c fa) $$ [HF0 HF1]
  · isplitl [HF0] <;> iassumption
  ihave He := (Entails.of_eq (extra_end c)) $$ He
  iapply (wp_tail m K c (yv m c)) $$ [Hax Hx0 HTx He HCx HV HS HO Hout]
  · isplitr; · iexact HK
    isplitr [HO Hout]
    · unfold axTail
      isplitl [Hax]; · iexact Hax
      isplitl [Hx0]; · iexact Hx0
      isplitl [HTx]; · iexact HTx
      isplitl [He]; · iexact He
      isplitl [HCx]; · iexact HCx
      isplitl [HV] <;> iassumption
    isplitl [HO] <;> iassumption
  unfold axEnd
  iintro ⟨⟨Hax, Haxr, HV, HS⟩, HO, Hout⟩
  ihave Hpos := (Entails.of_eq (pos_end c)) $$ [HatB H6 HS0 HS HV0 HV]
  · isplitl [HatB]; · iexact HatB
    isplitl [H6]; · iexact H6
    isplitl [HS0 HS]
    · isplitl [HS0] <;> iassumption
    isplitl [HV0] <;> iassumption
  imod (close_all m K c) $$ [Hpos] with Hz
  · isplitr; · iexact HK
    iexact Hpos
  imodintro
  iapply Hk
  unfold bodyEnd outFin
  isplitl [Ha]; · iexact Ha
  isplitl [HO]; · iexact HO
  isplitl [Hacc]; · iexact Hacc
  isplitl [Hax]; · iexact Hax
  isplitl [Haxr]; · iexact Haxr
  isplitl [Hout] <;> iassumption

end Body

end Cert.Ring
-- ==== Proof.Deal.lean ====
module

public import proofs.«01_k».proof.Proof.Body

/-!
# Dealing tokens and credits

Who pays a duty and who is credited: sums and families over all devices, taken round the ring and across the mesh.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Tokens -/

/-- The duties of a device's own semaphores: the barrier's two, the stripes' sends, receives and credits, and the
sends and receives of the maxima. -/
abbrev TK : Type := Bool ⊕ (Fin 4 × Fin 31) ⊕ (Fin 4 × Fin 31) ⊕ (Fin 4 × Fin 30) ⊕ Fin 32 ⊕ Fin 32
def tk : TK → KC × ℕ × Bool
  | .inl d => (none, 0, d)
  | .inr (.inl (sid, s)) => (some (.snd sid (par s)), s.val / 2, false)
  | .inr (.inr (.inl (sid, s))) => (some (.rcv sid (par (s.val + 1))), s.val / 2, false)
  | .inr (.inr (.inr (.inl (sid, s)))) => (some (.crd sid (par s)), s.val / 2, false)
  | .inr (.inr (.inr (.inr (.inl o)))) => (some (.axs o), 0, false)
  | .inr (.inr (.inr (.inr (.inr o)))) => (some (.axr o), 0, false)

theorem par_half {s t : ℕ} (h : par s = par t) (h' : s / 2 = t / 2) : s = t := by
  have : s % 2 = t % 2 := congrArg Fin.val h
  omega
theorem par_half' {s t : ℕ} (h : par (s + 1) = par (t + 1)) (h' : s / 2 = t / 2) : s = t := by
  have : (s + 1) % 2 = (t + 1) % 2 := congrArg Fin.val h
  omega

theorem tk_injective : Function.Injective tk := by
  intro x y h
  rcases x with d | ⟨i, s⟩ | ⟨i, s⟩ | ⟨i, s⟩ | o | o <;> rcases y with d' | ⟨i', s'⟩ | ⟨i', s'⟩ | ⟨i', s'⟩ | o' | o' <;>
    simp only [tk, Prod.mk.injEq, Option.some.injEq, OC.snd.injEq, OC.rcv.injEq, OC.crd.injEq, OC.axs.injEq, OC.axr.injEq, reduceCtorEq,
      false_and, _root_.true_and, _root_.and_true] at h
  · rw [h]
  · rw [h.1.1, Fin.ext (par_half h.1.2 h.2)]
  · rw [h.1.1, Fin.ext (par_half' h.1.2 h.2)]
  · rw [h.1.1, Fin.ext (par_half h.1.2 h.2)]
  · rw [h]
  · rw [h]

theorem kcell_injective : Function.Injective (fun ck : Dev nD × KC => kcell ck.1 ck.2) := by
  rintro ⟨c, k⟩ ⟨c', k'⟩ h
  have h1 : c = c' := congrArg (fun g : GSem nD τ sig => g.1.1) h
  have h2 : k = k' := csem_injective (congrArg Prod.snd h)
  rw [h1, h2]
def tokOf (ct : Dev nD × TK) : GSem nD τ sig × ℕ × Bool := (kcell ct.1 (tk ct.2).1, (tk ct.2).2)
theorem tokOf_injective : Function.Injective tokOf := by
  rintro ⟨c, t⟩ ⟨c', t'⟩ h
  have h1 := kcell_injective (a₁ := (c, (tk t).1)) (a₂ := (c', (tk t').1)) (congrArg Prod.fst h)
  have h0 : (tk t).2 = (tk t').2 := congrArg (fun x : GSem nD τ sig × ℕ × Bool => x.2) h
  have h2 : tk t = tk t' := Prod.ext (congrArg (fun x : Dev nD × KC => x.2) h1) h0
  have h3 : c = c' := congrArg Prod.fst h1
  rw [h3, tk_injective h2]

/-- A stripe's duties on its device's own semaphores. -/
def sndT (c : Dev nD) (sid : Fin 4) : sProp 𝕄 := bigSep (Finset.range 31) (fun s => dutyTok ER (kcell c (some (.snd sid (par s)))) (s / 2) false)
def rcvT (c : Dev nD) (sid : Fin 4) : sProp 𝕄 := bigSep (Finset.range 31) (fun s => dutyTok ER (kcell c (some (.rcv sid (par (s + 1))))) (s / 2) false)
def crdT (c : Dev nD) (sid : Fin 4) : sProp 𝕄 := bigSep (Finset.range 30) (fun s => dutyTok ER (kcell c (some (.crd sid (par s)))) (s / 2) false)

def ownToks (c : Dev nD) : sProp 𝕄 := bigSep Finset.univ (fun t : TK => dutyTok ER (tokOf (c, t)).1 (tokOf (c, t)).2.1 (tokOf (c, t)).2.2)

theorem ownToks_eq (c : Dev nD) :
    (ownToks c : sProp 𝕄) = iprop((dutyTok ER (kcell c none) 0 false ∗ dutyTok ER (kcell c none) 0 true)
      ∗ bigSep Finset.univ (sndT c) ∗ bigSep Finset.univ (rcvT c) ∗ bigSep Finset.univ (crdT c)
      ∗ bigSep Finset.univ (fun o => dutyTok ER (kcell c (some (.axs o))) 0 false) ∗ bigSep Finset.univ (fun o => dutyTok ER (kcell c (some (.axr o))) 0 false)) := by
  have h1 : (bigSep Finset.univ (fun p : Fin 4 × Fin 31 => dutyTok ER (kcell c (some (.snd p.1 (par p.2.val)))) (p.2.val / 2) false) : sProp 𝕄)
      = bigSep Finset.univ (sndT c) := by
    rw [bigSep_univ_prod]
    exact bigSep_congr fun sid _ => bigSep_fin 31 (fun s => dutyTok ER (kcell c (some (.snd sid (par s)))) (s / 2) false)
  have h2 : (bigSep Finset.univ (fun p : Fin 4 × Fin 31 => dutyTok ER (kcell c (some (.rcv p.1 (par (p.2.val + 1))))) (p.2.val / 2) false) : sProp 𝕄)
      = bigSep Finset.univ (rcvT c) := by
    rw [bigSep_univ_prod]
    exact bigSep_congr fun sid _ => bigSep_fin 31 (fun s => dutyTok ER (kcell c (some (.rcv sid (par (s + 1))))) (s / 2) false)
  have h3 : (bigSep Finset.univ (fun p : Fin 4 × Fin 30 => dutyTok ER (kcell c (some (.crd p.1 (par p.2.val)))) (p.2.val / 2) false) : sProp 𝕄)
      = bigSep Finset.univ (crdT c) := by
    rw [bigSep_univ_prod]
    exact bigSep_congr fun sid _ => bigSep_fin 30 (fun s => dutyTok ER (kcell c (some (.crd sid (par s)))) (s / 2) false)
  have h0 : (bigSep Finset.univ (fun d : Bool => dutyTok ER (kcell c none) 0 d) : sProp 𝕄)
      = iprop(dutyTok ER (kcell c none) 0 false ∗ dutyTok ER (kcell c none) 0 true) :=
    bigSep_univ_eq_bigSepL [false, true] (by decide) (by decide) _
  rw [← h0, ← h1, ← h2, ← h3]
  unfold ownToks
  rw [bigSep_univ_sum, bigSep_univ_sum, bigSep_univ_sum, bigSep_univ_sum, bigSep_univ_sum]
  rfl

/-- A family over devices and more, dealt to other devices. -/
theorem bigSep_around {I : Type} [Fintype I] (f g : I → Dev nD → Dev nD) (h : ∀ i c, f i (g i c) = c) (h' : ∀ i c, g i (f i c) = c)
    (Φ : Dev nD → I → sProp 𝕄) :
    bigSep Finset.univ (fun c => bigSep Finset.univ (Φ c)) = bigSep Finset.univ (fun c => bigSep Finset.univ (fun i => Φ (f i c) i)) := by
  let e : Dev nD × I ≃ Dev nD × I :=
    ⟨fun p => (f p.2 p.1, p.2), fun p => (g p.2 p.1, p.2), fun p => Prod.ext (h' p.2 p.1) rfl, fun p => Prod.ext (h p.2 p.1) rfl⟩
  rw [← bigSep_univ_prod (fun p : Dev nD × I => Φ p.1 p.2), ← bigSep_univ_prod (fun p : Dev nD × I => Φ (f p.2 p.1) p.2)]
  exact bigSep_univ_equiv e _

/-- The ring as a permutation of the devices. -/
def ringE : Dev nD ≃ Dev nD := ⟨fwdD, bwdD, bwd_fwd, fwd_bwd⟩

/-- The tokens go to the devices that pay with them. -/
theorem toks_deal : bigSep Finset.univ (fun c : Dev nD => (ownToks c : sProp 𝕄)) ⊢ bigSep Finset.univ (fun c : Dev nD => devToks c) := by
  have hax (c : Dev nD) : bigSep Finset.univ (fun o => (axSendTok c o : sProp 𝕄)) ⊢ bigSep (Finset.Ico 1 32) (fun j => axSendTok c (Fin.ofNat 32 j)) := by
    rw [bigSep_dist]
    iintro ⟨-, H⟩; iexact H
  have hdev : bigSep Finset.univ (fun c : Dev nD => (iprop(dutyTok ER (kcell (bwdD c) none) 0 false ∗ dutyTok ER (kcell (fwdD c) none) 0 true
      ∗ bigSep Finset.univ (sidToks c) ∗ bigSep Finset.univ (fun o => axSendTok c o)) : sProp 𝕄)) ⊢ bigSep Finset.univ (fun c : Dev nD => devToks c) :=
    bigSep_mono fun c _ => by
      unfold devToks
      exact sep_mono_right (sep_mono_right (sep_mono_right (hax c)))
  refine BIBase.Entails.trans ?_ hdev
  have hsid (c : Dev nD) : (bigSep Finset.univ (sidToks c) : sProp 𝕄) = iprop(bigSep Finset.univ (sndT c)
      ∗ bigSep Finset.univ (fun sid => rcvT (toD sid c) sid) ∗ bigSep Finset.univ (fun sid => crdT (fromD sid c) sid)) :=
    (bigSep_sep' Finset.univ (sndT c) (fun sid => iprop(rcvT (toD sid c) sid ∗ crdT (fromD sid c) sid))).trans
      (congrArg _ (bigSep_sep' Finset.univ (fun sid => rcvT (toD sid c) sid) (fun sid => crdT (fromD sid c) sid)))
  have haxs (c : Dev nD) : (bigSep Finset.univ (fun o => axSendTok c o) : sProp 𝕄) = iprop(bigSep Finset.univ (fun o => dutyTok ER (kcell c (some (.axs o))) 0 false)
      ∗ bigSep Finset.univ (fun o => dutyTok ER (kcell (axD o c) (some (.axr o))) 0 false)) := bigSep_sep' _ _ _
  rw [bigSep_congr fun c _ => ownToks_eq c]
  simp only [hsid, haxs]
  simp only [bigSep_sep']
  rw [bigSep_univ_equiv ringE.symm (fun c : Dev nD => (dutyTok ER (kcell c none) 0 false : sProp 𝕄)),
    bigSep_univ_equiv ringE (fun c : Dev nD => (dutyTok ER (kcell c none) 0 true : sProp 𝕄)),
    bigSep_around toD fromD to_from from_to (fun c sid => (rcvT c sid : sProp 𝕄)),
    bigSep_around fromD toD from_to to_from (fun c sid => (crdT c sid : sProp 𝕄)),
    bigSep_around axD axFrom axD_axFrom axFrom_axD (fun c o => (dutyTok ER (kcell c (some (.axr o))) 0 false : sProp 𝕄))]
  iintro ⟨⟨HB, HF⟩, HS, HV, HC, HAS, HAV⟩
  isplitl [HB]; · iexact HB
  isplitl [HF]; · iexact HF
  isplitl [HS HV HC]
  · isplitl [HS]; · iexact HS
    isplitl [HV] <;> iassumption
  isplitl [HAS] <;> iassumption

/-! ## Credits -/

abbrev CT : Type := CellTallies nD τ sig ℕ

theorem cred_two (T T' : CT) : (cred (T + T') : sProp 𝕄) = iprop(cred T ∗ cred T') := BI.Entails.antisymm (cred_add _ _).1 (cred_add _ _).2
theorem cred_sum {I : Type} [DecidableEq I] (S : Finset I) (T : I → CT) : (cred (∑ i ∈ S, T i) : sProp 𝕄) = bigSep S fun i => cred (T i) := by
  induction S using Finset.induction_on with
  | empty => rw [Finset.sum_empty, cred_zero, BI.bigSep_empty]; rfl
  | insert a S h ih => rw [Finset.sum_insert h, BI.bigSep_insert h, cred_two, ih]; rfl

/-- A stripe's receive and credit counts on the semaphores of device `a`, and of device `b`. -/
def sidO (a b : Dev nD) (sid : Fin 4) : CT :=
  ∑ s ∈ Finset.range 31, tallyAt (kcell a (some (.rcv sid (par (s + 1))))) (s / 2) N
    + ∑ s ∈ Finset.range 30, tallyAt (kcell b (some (.crd sid (par s)))) (s / 2) 1

/-- Everything device `c` pays, summed by semaphore; and everything that is paid to it. -/
def payC (c : Dev nD) : CT :=
  tallyAt (kcell (fwdD c) none) 0 1 + tallyAt (kcell (bwdD c) none) 0 1 + ∑ sid, sidO (toD sid c) (fromD sid c) sid
    + ∑ j ∈ Finset.Ico 1 32, tallyAt (kcell (axD (Fin.ofNat 32 j) c) (some (.axr (Fin.ofNat 32 j)))) 0 N'
def dueC (c : Dev nD) : CT :=
  tallyAt (kcell c none) 0 2 + ∑ sid, sidO c c sid + ∑ j ∈ Finset.Ico 1 32, tallyAt (kcell c (some (.axr (Fin.ofNat 32 j)))) 0 N'

theorem axO_eq (c : Dev nD) : ∀ n o, axO c n o = ∑ j ∈ Finset.Ico o (o + n), tallyAt (kcell (axD (Fin.ofNat 32 j) c) (some (.axr (Fin.ofNat 32 j)))) 0 N'
  | 0, o => by rw [show o + 0 = o from rfl, Finset.Ico_self, Finset.sum_empty]; rfl
  | n + 1, o => by
    have ih := axO_eq c n (o + 1)
    rw [show o + 1 + n = o + (n + 1) by omega] at ih
    have hI : Finset.Ico o (o + (n + 1)) = insert o (Finset.Ico (o + 1) (o + (n + 1))) := by
      ext j; simp only [Finset.mem_insert, Finset.mem_Ico]; omega
    rw [hI, Finset.sum_insert (by simp only [Finset.mem_Ico]; omega), ← ih]
    exact add_comm (axO c n (o + 1)) _

/-- What step `s + 1` of a stripe pays. -/
def stripeD (c : Dev nD) (sid : Fin 4) (s : ℕ) : CT :=
  tallyAt (kcell (toD sid c) (some (.rcv sid (par (s + 1 + 1))))) ((s + 1) / 2) N + tallyAt (kcell (fromD sid c) (some (.crd sid (par s)))) (s / 2) 1

theorem stripeO_eq (c : Dev nD) (sid : Fin 4) (s : ℕ) (O : CT) : stripeO c sid s O = O + stripeD c sid s := by
  unfold stripeO stripeD
  rw [show s + 1 + 1 = s + 2 from rfl, par_two, add_assoc]

theorem stepsO_eq (c : Dev nD) (O : CT) : ∀ n s, stepsO c n s O = O + ∑ sid, ∑ i ∈ Finset.range n, stripeD c sid (s + i)
  | 0, s => by
    simp only [Finset.range_zero, Finset.sum_empty, Finset.sum_const_zero, add_zero]; rfl
  | n + 1, s => by
    have ih := stepsO_eq c O n (s + 1)
    show stepO c s (stepsO c n (s + 1) O) = _
    unfold stepO
    rw [ih]
    simp only [stripeO_eq, Finset.sum_range_succ', Finset.sum_add_distrib, Fin.sum_univ_four, show ∀ i, s + 1 + i = s + (i + 1) from fun i => by omega, show s + 0 = s from rfl]
    ac_rfl

theorem O₀_eq (c : Dev nD) : O₀ c = payC c := by
  have hsid (sid : Fin 4) : sidO (toD sid c) (fromD sid c) sid
      = tallyAt (kcell (toD sid c) (some (.rcv sid (par (0 + 1))))) (0 / 2) N + ∑ i ∈ Finset.range 30, stripeD c sid (0 + i) := by
    unfold sidO stripeD
    rw [Finset.sum_range_succ', Finset.sum_add_distrib]
    simp only [Nat.zero_add]
    ac_rfl
  unfold O₀ seedsO afterO seedO payC
  rw [stepsO_eq, axO_eq]
  simp only [hsid, Finset.sum_add_distrib]
  rw [Fin.sum_univ_four (fun sid => (tallyAt (kcell (toD sid c) (some (.rcv sid (par (0 + 1))))) (0 / 2) N : CT))]
  ac_rfl

theorem sum_around {I : Type} (S : Finset I) (f g : I → Dev nD → Dev nD) (h : ∀ i c, f i (g i c) = c) (h' : ∀ i c, g i (f i c) = c)
    (T : Dev nD → I → CT) : ∑ c, ∑ i ∈ S, T (f i c) i = ∑ c, ∑ i ∈ S, T c i := by
  rw [Finset.sum_comm, Finset.sum_comm (s := Finset.univ) (t := S) (f := fun c i => T c i)]
  exact Finset.sum_congr rfl fun i _ => Equiv.sum_comp ⟨f i, g i, h' i, h i⟩ (fun c => T c i)

/-- What all pay together is what is paid to all. -/
theorem pay_due : ∑ c, O₀ c = ∑ c, dueC c := by
  have h1 := Equiv.sum_comp ringE (fun c => (tallyAt (kcell c none) 0 1 : CT))
  have h2 := Equiv.sum_comp ringE.symm (fun c => (tallyAt (kcell c none) 0 1 : CT))
  have h3 := sum_around Finset.univ toD fromD to_from from_to (fun c sid => (∑ s ∈ Finset.range 31, tallyAt (kcell c (some (.rcv sid (par (s + 1))))) (s / 2) N : CT))
  have h4 := sum_around Finset.univ fromD toD from_to to_from (fun c sid => (∑ s ∈ Finset.range 30, tallyAt (kcell c (some (.crd sid (par s)))) (s / 2) 1 : CT))
  have h5 := sum_around (Finset.Ico 1 32) (fun j => axD (Fin.ofNat 32 j)) (fun j => axFrom (Fin.ofNat 32 j)) (fun j => axD_axFrom _) (fun j => axFrom_axD _)
    (fun c j => (tallyAt (kcell c (some (.axr (Fin.ofNat 32 j)))) 0 N' : CT))
  have h6 : ∀ c : Dev nD, (tallyAt (kcell c none) 0 2 : CT) = tallyAt (kcell c none) 0 1 + tallyAt (kcell c none) 0 1 := fun c => (tallyAt_add (kcell c none) 0 1 1).symm
  rw [Finset.sum_congr rfl fun c _ => O₀_eq c]
  unfold payC dueC sidO
  simp only [h6, Finset.sum_add_distrib]
  rw [h3, h4, h5, show ∑ c, (tallyAt (kcell (fwdD c) none) 0 1 : CT) = ∑ c, tallyAt (kcell c none) 0 1 from h1,
    show ∑ c, (tallyAt (kcell (bwdD c) none) 0 1 : CT) = ∑ c, tallyAt (kcell c none) 0 1 from h2]

/-- Counts on the semaphores of device `c` only. -/
def OnlyOn (c : Dev nD) (T : CT) : Prop := ∀ g : GSem nD τ sig, g.1 ≠ (c : Thread nD τ) → T g = 0
theorem OnlyOn.add {c : Dev nD} {T T' : CT} (h : OnlyOn c T) (h' : OnlyOn c T') : OnlyOn c (T + T') := fun g hg => by
  rw [Pi.add_apply, h g hg, h' g hg, add_zero]
theorem OnlyOn.sum {I : Type} {c : Dev nD} {S : Finset I} {T : I → CT} (h : ∀ i ∈ S, OnlyOn c (T i)) : OnlyOn c (∑ i ∈ S, T i) := fun g hg => by
  rw [Finset.sum_apply]; exact Finset.sum_eq_zero fun i hi => h i hi g hg
theorem OnlyOn.tally (c : Dev nD) (k : KC) (r n : ℕ) : OnlyOn c (tallyAt (kcell c k) r n) := fun g hg =>
  tallyAt_ne_cell (fun h => hg (congrArg Prod.fst h)) _ _

theorem dueC_only (c : Dev nD) : OnlyOn c (dueC c) :=
  ((OnlyOn.tally c none 0 2).add (OnlyOn.sum fun sid _ => (OnlyOn.sum fun s _ => OnlyOn.tally c _ _ _).add (OnlyOn.sum fun s _ => OnlyOn.tally c _ _ _))).add
    (OnlyOn.sum fun j _ => OnlyOn.tally c _ _ _)

theorem launch_due (c : Dev nD) (sm : SemLoc sig) : launchCredit (Pipeline.owing O₀) 0 ((c : Thread nD τ), sm) = dueC c ((c : Thread nD τ), sm) := by
  refine Finsupp.ext fun i => ?_
  rw [Pipeline.launchCredit_owing]
  have h := congrFun pay_due ((c : Thread nD τ), sm)
  rw [Finset.sum_apply, Finset.sum_apply] at h
  have h2 : ∑ c', dueC c' ((c : Thread nD τ), sm) = dueC c ((c : Thread nD τ), sm) :=
    Fintype.sum_eq_single c fun c' hc => dueC_only c' _ fun h => hc (congrArg Prod.fst h).symm
  have h3 := DFunLike.congr_fun (h.trans h2) i
  rw [Finsupp.finsetSum_apply] at h3
  exact h3

/-- Counts on one device's semaphores are the sum over its semaphores. -/
theorem OnlyOn.eq_sum {c : Dev nD} {T : CT} (h : OnlyOn c T) : ∑ sm : SemLoc sig, tallyOn ((c : Thread nD τ), sm) (T ((c : Thread nD τ), sm)) = T := by
  funext g
  rw [Finset.sum_apply]
  by_cases hg : g.1 = (c : Thread nD τ)
  · obtain ⟨t, sm⟩ := g
    subst hg
    rw [Fintype.sum_eq_single sm fun sm' hne => tallyOn_ne (fun h => hne (congrArg Prod.snd h).symm) _, tallyOn_self]
  · rw [h g hg]
    exact Finset.sum_eq_zero fun sm _ => tallyOn_ne (fun h' => hg (congrArg Prod.fst h')) _

theorem sep_assoc_eq (A B C : sProp 𝕄) : iprop((A ∗ B) ∗ C) = iprop(A ∗ B ∗ C) := by
  have h : iprop((A ∗ B) ∗ C) ⊢ iprop(A ∗ B ∗ C) := by
    iintro ⟨⟨HA, HB⟩, HC⟩
    isplitl [HA]; · iexact HA
    isplitl [HB] <;> iassumption
  have h' : iprop(A ∗ B ∗ C) ⊢ iprop((A ∗ B) ∗ C) := by
    iintro ⟨HA, HB, HC⟩
    isplitr [HC]
    · isplitl [HA] <;> iassumption
    iexact HC
  exact BI.Entails.antisymm h h'

theorem creds (c : Dev nD) : (Pipeline.launchCred O₀ c : sProp 𝕄) = devCreds c := by
  unfold Pipeline.launchCred
  rw [bigSep_congr fun sm _ => congrArg (fun T => (cred (tallyOn ((c : Thread nD τ), sm) T) : sProp 𝕄)) (launch_due c sm), ← cred_sum, (dueC_only c).eq_sum]
  unfold dueC devCreds sidO
  rw [cred_two, cred_two, cred_sum, cred_sum, bigSep_congr fun sid _ => cred_two _ _]
  have h : (bigSep Finset.univ (sidCreds c) : sProp 𝕄) = bigSep Finset.univ (fun sid =>
      iprop(cred (∑ s ∈ Finset.range 31, tallyAt (kcell c (some (.rcv sid (par (s + 1))))) (s / 2) N : CT) ∗ cred (∑ s ∈ Finset.range 30, tallyAt (kcell c (some (.crd sid (par s)))) (s / 2) 1 : CT))) :=
    bigSep_congr fun sid _ => by rw [cred_sum, cred_sum]; rfl
  rw [h]
  exact sep_assoc_eq _ _ _

end Cert.Ring
-- ==== Proof.Launch.lean ====
module

public import proofs.«01_k».proof.Proof.Deal
public import Idealize.ShloMosaic.Lib.Pipeline.Launch
public import Idealize.ShloMosaic.Lib.Pipeline.Kit
public import Idealize.ShloMosaic.Lib.Tactic
public import Idealize.ShloMosaic.Lib.Pipeline.CollectiveSegs
public import proofs.«01_k».proof.Proof.Gen.KernelIdeal.Points

/-!
# The run of the whole program

The launch on all devices: the ghost state is allocated and dealt, every device runs the body, and the semaphores end at zero.
-/

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

def s₀ : MemSt nD τ sig (Elt F) := ⟨m, fun _ => 0, ρ⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from: what all know, its positions, tokens and credits. -/
def start (c : Dev nD) : sProp 𝕄 := iprop((∃ K, know m K) ∗ devPos c ∗ devToks c ∗ devCreds c)

/-- The scratch buffers. -/
def scratch (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch4), (c : Thread nD τ).loc cc0_scratch4 ↦{fullShare} f)
    ∗ (∃ f : Buf (Elt F) ((c : Thread nD τ).loc cc0_scratch5), (c : Thread nD τ).loc cc0_scratch5 ↦{fullShare} f))

def Φ₀ (c : Dev nD) : sProp 𝕄 := iprop(start m c ∗ scratch c)
def Φ₁ (c : Dev nD) : sProp 𝕄 := iprop(scratch c ∗ bigSep Finset.univ (fun k : KC => semVal (kcell c k) 0))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outFin m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt (0 : ℕ) t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt (0 : ℕ) t₀.succ ∗ stg c cc0_stg0_0 (xstg m c) ∗ stg c cc0_stg1_0 (wstg m c) ∗ stg c cc0_stg2_0 (outFin m c))

theorem sound_body (c : Dev nD) : bodyPre m ρ c ⊢ WP c bodyP (fun _ => bodyPost m ρ c) := by
  unfold bodyPre Φ₀ start scratch
  iintro ⟨⟨⟨⟨%K, #HK⟩, Hp, Ht, Hc⟩, Hs0, Hs4, Hs5⟩, Ho, ⟨%d0, %g0, %hg0, Hx⟩, ⟨%d1, %g1, %hg1, Hw⟩, ⟨%d2, %g2, -, Hout⟩⟩
  have hx : g0 = xstg m c := by rw [hg0]; unfold Dat.before; rw [if_pos (fetch0_0 t₀)]; rfl
  have hw : g1 = wstg m c := by rw [hg1]; unfold Dat.before; rw [if_pos (fetch0_1 t₀)]; rfl
  subst hx
  subst hw
  unfold Dat.owesAt Pipeline.owesWithin
  icases Ho with ⟨%W, %hW, HO⟩
  rw [show (dats m ρ 0 c).owed t₀.castSucc = O₀ c from rfl]
  iapply (wp_body m K c g2 (Q := fun _ => bodyPost m ρ c)) $$ [Hp Ht Hc Hs0 Hs4 Hs5 Hx Hw Hout HO]
  · isplitr; · iexact HK
    isplitl [Hp]; · iexact Hp
    isplitl [Ht]; · iexact Ht
    isplitl [Hc]; · iexact Hc
    isplitl [Hx Hw]
    · unfold args
      isplitl [Hx] <;> iassumption
    isplitl [HO]
    · unfold owe
      iexists W; iexact HO
    isplitl [Hs0]; · iexact Hs0
    isplitl [Hs4]; · iexact Hs4
    isplitl [Hs5]; · iexact Hs5
    unfold outPts; iexact Hout
  unfold bodyEnd args owe outPts bodyPost Φ₁ scratch Dat.owesAt Pipeline.owesWithin
  rw [show (dats m ρ 0 c).owed t₀.succ = 0 from rfl]
  iintro ⟨⟨Hx, Hw⟩, ⟨%W', HO⟩, Hs0, Hs4, Hs5, Hout, Hz⟩
  isplitl [Hs0 Hs4 Hs5 Hz]
  · isplitr [Hz]
    · isplitl [Hs0]; · iexact Hs0
      isplitl [Hs4] <;> iassumption
    iexact Hz
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 100000 in
/-- The body obligation on device `c`. -/
theorem body_obligation (c : Dev nD) : BodyObligation (dats (F := F) m ρ 0 c) (defs₀ (F := F)) 𝒱₀ (0 : ℕ) Set.univ := fun t => by
  rw [fin_N t]
  rw [bigSep_W, bigSep_W]
  simp only [owns_whole_eq]
  show bodyPre m ρ c ⊢ WP c (cc0_body xM (Memref.isWhole_whole _) wM (Memref.isWhole_whole _) outM (Memref.isWhole_whole _) accM (Memref.isWhole_whole _)
    cc0_scratch1 cc0_scratch2 cc0_scratch3 axM (Memref.isWhole_whole _) axrM (Memref.isWhole_whole _) cc0_scratch6 cc0_scratch7) (fun _ => bodyPost m ρ c)
  rw [body_eq]
  exact sound_body m ρ c

/-! ## The launch -/

set_option maxRecDepth 100000 in
theorem ownSemFacts : Pipeline.OwnSemFacts cfg0.spec osem := by decide +kernel

theorem share_eq (c : Dev nD) (w : Fin cfg0.W) : (dats m ρ 0 c).share w = fullShare := by unfold Dat.share; split <;> rfl

def ringCells : Finset (GSem nD τ sig) := Finset.univ.map ⟨fun ck : Dev nD × KC => kcell ck.1 ck.2, kcell_injective⟩
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- A device's share of the ghost state at the start. -/
def G (c : Dev nD) : sProp 𝕄 :=
  iprop(bigSep Finset.univ (fun k : KC => roundState ER (ringRd m) (kcell c k) 0)
    ∗ bigSep Finset.univ (fun k : KC => iprop(atPos ER (kcell c k) 0 ∅ 0 ∗ reached ER (kcell c k) 0)) ∗ ownToks c)

/-- All invariants and marks. -/
def records (K : Dev nD × KC → ℕ) : sProp 𝕄 :=
  iprop(bigSep Finset.univ (fun ck : Dev nD × KC => cellInv ER (ringRd m) (K ck) (kcell ck.1 ck.2))
    ∗ bigSep Finset.univ (fun ck : Dev nD × KC => reached ER (kcell ck.1 ck.2) 0))
instance records_persistent (K : Dev nD × KC → ℕ) : BI.Persistent (records m K) := by unfold records; infer_instance

def G' (c : Dev nD) : sProp 𝕄 := iprop((∃ K, records m K) ∗ devPos c ∗ devToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KC => Φ (kcell c k) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's semaphores: the barrier's, which the launch does not scope, and the kernel's own. -/
theorem unscopedSems0_eq (c : Dev nD) : (unscopedSems0 c : sProp 𝕄) = semVal (kcell c none) 0 := by
  unfold unscopedSems0; rw [bigSep_eq_bigSepL_of_eq [SemLoc.reg barS] (by decide) (by decide)]; rfl
theorem sems0_eq (c : Dev nD) : (bigSep Finset.univ (fun k : KC => semVal (kcell c k) 0) : sProp 𝕄)
    = iprop(unscopedSems0 c ∗ Pipeline.ownSems0 (Ix := ℕ) (Name := ℕ) (U := UU) (Lvl := ℕ) (Val := Elt F) (τ := τ) osem c) := by
  rw [bigSep_KC', unscopedSems0_eq]
  rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop(bigSep Finset.univ (fun k : KC => iprop(∃ κ : ℕ, cellInv ER (ringRd m) κ (kcell c k)))
          ∗ bigSep Finset.univ (fun k : KC => iprop(atPos ER (kcell c k) 0 ∅ 0 ∗ reached ER (kcell c k) 0)) ∗ ownToks c) := by
  have h : iprop(bigSep Finset.univ (fun k : KC => semVal (kcell c k) 0) ∗ bigSep Finset.univ (fun k : KC => roundState ER (ringRd m) (kcell c k) 0))
      ⊢ (|={Set.univ}=> bigSep Finset.univ fun k => iprop(∃ κ : ℕ, cellInv ER (ringRd m) κ (kcell c k)) : sProp 𝕄) := by
    rw [← bigSep_sep']
    exact (bigSep_mono fun k _ => (Rounds.body_intro ER (ringRd m) (kcell c k)).trans inv_alloc).trans (bigSep_fupd _ _)
  unfold G
  iintro ⟨Hos, Hus, Hst, Hat, Htok⟩
  ihave Hv := (Entails.of_eq (sems0_eq (F := F) c).symm) $$ [Hos Hus]
  · isplitl [Hus] <;> iassumption
  imod h $$ [Hv Hst] with Hinv
  · isplitl [Hv] <;> iassumption
  imodintro
  isplitl [Hinv]; · iexact Hinv
  isplitl [Hat]; · iexact Hat
  iexact Htok

theorem regroup :
    (bigSep Finset.univ (fun c : Dev nD => iprop(bigSep Finset.univ (fun k : KC => iprop(∃ κ : ℕ, cellInv ER (ringRd m) κ (kcell c k)))
          ∗ bigSep Finset.univ (fun k : KC => iprop(atPos ER (kcell c k) 0 ∅ 0 ∗ reached ER (kcell c k) 0)) ∗ ownToks c)) : sProp 𝕄)
      ⊢ bigSep Finset.univ (G' m) := by
  have hG (K : Dev nD × KC → ℕ) (c : Dev nD) : iprop(records m K ∗ (devPos c ∗ devToks c)) ⊢ G' m c := by
    unfold G'
    iintro ⟨HK, Hp, Ht⟩
    isplitl [HK]; · iexists K; iexact HK
    isplitl [Hp] <;> iassumption
  rw [bigSep_sep', bigSep_sep', ← bigSep_univ_prod (fun ck : Dev nD × KC => iprop(∃ κ : ℕ, cellInv ER (ringRd m) κ (kcell ck.1 ck.2))),
    bigSep_congr (s := Finset.univ) (fun (c : Dev nD) _ => bigSep_sep' Finset.univ (fun k : KC => (atPos ER (kcell c k) 0 ∅ 0 : sProp 𝕄)) (fun k => reached ER (kcell c k) 0)),
    bigSep_sep', ← bigSep_univ_prod (fun ck : Dev nD × KC => (reached ER (kcell ck.1 ck.2) 0 : sProp 𝕄))]
  iintro ⟨HI, ⟨Hat, #HR⟩, Htok⟩
  ihave HK := (BI.bigSep_exists_pi Finset.univ (fun (ck : Dev nD × KC) (κ : ℕ) => (cellInv ER (ringRd m) κ (kcell ck.1 ck.2) : sProp 𝕄))) $$ HI
  icases HK with ⟨%K, #HI⟩
  ihave Htk := toks_deal $$ Htok
  iapply (BI.bigSep_with_persistent (R := records m K) fun c _ => hG K c)
  isplitr
  · unfold records; isplitl; · iexact HI
    iexact HR
  rw [bigSep_sep']
  isplitl [Hat]; · iexact Hat
  iexact Htk

theorem glob : (bigSep Finset.univ (fun c => iprop(Pipeline.ownSems0 (Ix := ℕ) (Name := ℕ) (U := UU) (Lvl := ℕ) (Val := Elt F) (τ := τ) osem c ∗ unscopedSems0 c ∗ G m c)) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' records know levs
  iintro ⟨-, Hlev, Hcr, -, ⟨%K, HI, HR⟩, Hp, Ht⟩
  ihave Hc := (Entails.of_eq (creds (F := F) c)) $$ Hcr
  imodintro
  isplitl
  · isplitl [HI HR Hlev]
    · iexists K
      isplitl [HI]; · iexact HI
      isplitl [HR] <;> iassumption
    isplitl [Hp]; · iexact Hp
    isplitl [Ht] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems0_eq]
  iintro ⟨Hr, Hu, Ho⟩
  isplitl [Hu]; · iexact Hu
  isplitl [Ho] <;> iassumption

/-- The staging semaphores stand below all others. -/
theorem lv_other (c : Dev nD) (sm : SemLoc sig) (h : ∀ k, csem k ≠ sm) (i : ℕ) : lv ((c : Thread nD τ), sm) i = 0 := by
  have hk : kindOf ((c : Thread nD τ), sm) = none := by
    unfold kindOf
    rw [if_pos rfl]
    cases hp : Function.partialInv csem sm with
    | none => rfl
    | some k => exact absurd ((Function.partialInv_of_injective csem_injective _ _).mp hp) (h k)
  unfold lv
  rw [hk]

theorem stage_other : ∀ (w : Fin cfg0.W) (s : Fin (cfg0.win w).nbuf) (k : KC), csem k ≠ .dma ((cfg0.win w).sem s) := by decide +kernel

theorem waits (c : Dev nD) : (levAts L lv : sProp 𝕄) ⊢ Pipeline.cellsWaits cfgs (dats m ρ) (0 : ℕ) 0 c :=
  Pipeline.cellsWaits_intro cfgs (dats m ρ) (0 : ℕ) 0 c fun w s t => by
    have hO : Above 0 ((dats m ρ 0 c).owed t) := by
      rcases t with ⟨_ | _, ht⟩
      · exact Above.start c
      · exact Above.zero 0
    have h := mayWait (F := F) hO c (.dma ((cfg0.win w).sem s)) 0 (by decide) (le_of_eq (lv_other c _ (stage_other w s) 0))
    unfold levs at h
    exact h

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every execution of the program on all devices terminates, with each device's arrays
at the stated contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.Ring
-- ==== Proof.Payload.lean ====
module

public import proofs.«01_k».proof.Proof.Steps
public import Idealize.ShloMosaic.Lib.Pointwise
public import Idealize.ShloMosaic.Lib.ValueIdxCoords

/-!
# What one step computes, element by element

The product of a block of rows with a block of columns, the sum of a passing stripe and a product, and the
quantiser, each read at an index over the extended reals.
-/

@[expose] public section

set_option maxRecDepth 16384

noncomputable section

namespace Cert.Ring

open Cert.KernelIdeal Cert.KernelIdeal.Gen
open Idealize.ShloMosaic

/-- Column `j` of stripe `sid`, in the half of the columns it lies in. -/
def inHalf (sid : Fin 4) (j : Fin 2048) : Fin 4096 := ⟨2048 * (sid.val / 2) + j.val, by omega⟩

/-- The first product of a stripe. -/
theorem pay2_at (x : FVec Ideal S128x128 .f32) (w : FVec Ideal S128x2048 .f32) (i : Fin 128) (j : Fin 2048) :
    k0_pay2 x w (ix4 0 0 i j) = ∑ k : Fin 128, x (ix2 i k) * w (ix2 k j) := by
  pointwise [k0_pay2]

/-- The product for half of the columns. -/
theorem pay8_at (x : FVec Ideal S128x128 .f32) (w : FVec Ideal S128x4096 .f32) (i : Fin 128) (j : Fin 4096) :
    k0_pay8 x w (ix2 i j) = ∑ k : Fin 128, x (ix2 i k) * w (ix2 k j) := by
  pointwise [k0_pay8]

/-- A stripe takes its columns of a product. -/
theorem addP_at (sid : Fin 4) (p : FVec Ideal S128x4096 .f32) (v : FVec Ideal S1x1x128x2048 .f32) (i : Fin 128) (j : Fin 2048) :
    addP sid p v (ix4 0 0 i j) = v (ix4 0 0 i j) + p (ix2 i (inHalf sid j)) := by
  unfold addP
  split
  · rename_i h
    have e : inHalf sid j = ⟨j.val, by omega⟩ := Fin.ext (by show 2048 * (sid.val / 2) + j.val = j.val; omega)
    rw [e]
    pointwise [k0_pay10]
  · rename_i h
    have e : inHalf sid j = ⟨2048 + j.val, by omega⟩ := Fin.ext (by show 2048 * (sid.val / 2) + j.val = 2048 + j.val; omega)
    rw [e]
    pointwise [k0_pay15]

theorem outP_at (sid : Fin 4) (p : FVec Ideal S128x4096 .f32) (v : FVec Ideal S1x1x128x2048 .f32) (i : Fin 128) (j : Fin 2048) :
    outP sid p v (ix2 i j) = v (ix4 0 0 i j) + p (ix2 i (inHalf sid j)) := by
  unfold outP
  split
  · rename_i h
    have e : inHalf sid j = ⟨j.val, by omega⟩ := Fin.ext (by show 2048 * (sid.val / 2) + j.val = j.val; omega)
    rw [e]
    pointwise [k0_pay228]
  · rename_i h
    have e : inHalf sid j = ⟨2048 + j.val, by omega⟩ := Fin.ext (by show 2048 * (sid.val / 2) + j.val = 2048 + j.val; omega)
    rw [e]
    pointwise [k0_pay232]

/-! ## The maxima

Each is known by its upper bounds, so a maximum of maxima is the maximum of everything under it. -/

/-- The magnitude of an extended real. -/
def mag (x : EReal) : EReal := max x (-x)

/-- The start of every maximum is below everything. -/
theorem start_le (B : EReal) : Ideal.ofBits FTy.f32 0xFF800000#32 ≤ B := by
  rw [show Ideal.ofBits FTy.f32 0xFF800000#32 = ⊥ by simp [Ideal.ofBits, Ideal.ieee]]
  exact bot_le

/-- The greatest magnitude of a finished stripe. -/
theorem amaxP_le (sid : Fin 4) (p : FVec Ideal S128x4096 .f32) (v : FVec Ideal S1x1x128x2048 .f32) (B : EReal) :
    amaxP sid p v ≤ B ↔ ∀ (i : Fin 128) (j : Fin 2048), mag (outP sid p v (ix2 i j)) ≤ B := by
  unfold amaxP outP
  split
  · pointwise [k0_pay229]
    rw [Finset.fold_max_le]
    exact ⟨fun h i j => h.2 (i, j) (Finset.mem_univ _), fun h => ⟨start_le B, fun x _ => h x.1 x.2⟩⟩
  · pointwise [k0_pay233]
    rw [Finset.fold_max_le]
    exact ⟨fun h i j => h.2 (i, j) (Finset.mem_univ _), fun h => ⟨start_le B, fun x _ => h x.1 x.2⟩⟩

/-- The greatest of four. -/
theorem amax4_le (a b c d B : EReal) : amax4 (F := Ideal) a b c d ≤ B ↔ (a ≤ B ∧ b ≤ B) ∧ c ≤ B ∧ d ≤ B := by
  show max (max a b) (max c d) ≤ B ↔ _
  rw [max_le_iff, max_le_iff, max_le_iff]

/-- The greatest of the exchanged maxima. -/
theorem pay238_le (a : Vec Ideal S32x8x128 .f32) (B : EReal) :
    k0_pay238 a ≤ B ↔ ∀ (o : Fin 32) (r : Fin 8) (l : Fin 128), (a (ix3 o r l) : EReal) ≤ B := by
  pointwise [k0_pay238]
  rw [Finset.fold_max_le]
  constructor
  · intro h o r l
    exact h.2 (ix4 0 o r l) (Finset.mem_filter.mpr ⟨Finset.mem_univ _, (ValueIdx.eq_ix1_u0 _).trans (ValueIdx.eq_ix1_u0 _).symm⟩)
  · exact fun h => ⟨start_le B, fun x _ => h (x 1) (x 2) (x 3)⟩

/-! ## The quantiser -/

/-- The extended real `y` quantised, `A` the greatest magnitude. -/
def quantised (A y : EReal) : EReal :=
  min (Ideal.ofBits FTy.f32 0x42FE0000#32)
      (max (Ideal.ofBits FTy.f32 0xC2FE0000#32)
        (Ideal.liftRound Ideal.roundHalfEven (Ideal.div y (Ideal.div A (Ideal.ofBits FTy.f32 0x42FE0000#32)))))
    * Ideal.div A (Ideal.ofBits FTy.f32 0x42FE0000#32)

theorem quant_at (A : EReal) (y : Vec Ideal S128x8192 .f32) (i : S128x8192.Idx) :
    k0_pay1 (F := Ideal) (k0_pay239 (F := Ideal) A) (k0_pay240 (F := Ideal) A y) i = quantised A (y i) := by
  pointwise [k0_pay1, k0_pay239, k0_pay240, quantised]

end Cert.Ring
-- ==== Proof.Order.lean ====
module

public import proofs.«01_k».proof.Proof.Steps
public import Mathlib.Algebra.BigOperators.Fin

/-!
# The order of the ring

Each device has a rank round the ring. A stripe works on one block of rows all the way round: the block of the
device it ends on.
-/

@[expose] public section

set_option maxRecDepth 16384

noncomputable section

namespace Cert.Ring

open Cert.KernelIdeal Cert.KernelIdeal.Gen
open Idealize.ShloMosaic

/-- Where device `c` stands in the ring. -/
def rankOf (c : Dev nD) : ℕ :=
  let x := if c.val % 8 / 2 % 2 = 0 then c.val % 2 else 1 - c.val % 2
  let p := 4 * (c.val / 8) + if c.val / 8 % 2 = 0 then c.val % 8 / 2 else 3 - c.val % 8 / 2
  if x = 0 then p else 31 - p

theorem rank_lt (c : Dev nD) : rankOf c < 32 := by revert c; decide +kernel
theorem rank_inj (c d : Dev nD) : rankOf c = rankOf d → c = d := by revert c d; decide +kernel
theorem rank_from (sid : Fin 4) (c : Dev nD) :
    rankOf (fromD sid c) = (rankOf c + if sid.val % 2 = 0 then 31 else 1) % 32 := by
  revert sid c; decide +kernel

/-- Going back round the ring meets every device once. -/
theorem rank_iterate (sid : Fin 4) (c : Dev nD) (t : ℕ) :
    rankOf ((fromD sid)^[t] c) = (rankOf c + t * if sid.val % 2 = 0 then 31 else 1) % 32 := by
  induction t with
  | zero => rw [Nat.zero_mul, Nat.add_zero, Nat.mod_eq_of_lt (rank_lt c)]; rfl
  | succ t ih =>
    rw [Function.iterate_succ_apply', rank_from, ih]
    split <;> omega

theorem sum_ring (sid : Fin 4) (c : Dev nD) {M : Type} [AddCommMonoid M] (f : Dev nD → M) :
    ∑ t ∈ Finset.range 32, f ((fromD sid)^[t] c) = ∑ d, f d := by
  have hi : Function.Injective fun t : Fin 32 => (fromD sid)^[t.val] c := fun t u h => by
    have h' := congrArg rankOf h
    dsimp only at h'
    rw [rank_iterate, rank_iterate] at h'
    refine Fin.ext ?_
    split at h' <;> omega
  have hb : Function.Bijective fun t : Fin 32 => (fromD sid)^[t.val] c := ⟨hi, Finite.injective_iff_surjective.mp hi⟩
  rw [Finset.sum_range]
  exact hb.sum_comp f

/-! ## The blocks of rows -/

/-- The block of rows device `c` reads in place `i`. -/
def blk (c : Dev nD) (i : Fin 64) : Dev nD := ⟨xoff c i 0 / 128 % 32, Nat.mod_lt _ (by decide)⟩

theorem xoff_blk (c : Dev nD) (i : Fin 64) : (xoff c i 0 = 128 * (blk c i).val ∧ xoff c i 1 = 0)
    ∧ rankOf (blk c i) = (rankOf c + (31 - i.val / 2) * if i.val % 2 = 0 then 1 else 31) % 32 := by
  revert c i; decide +kernel

/-- The place of step `s` of stripe `sid` in that order. -/
def place (sid : Fin 4) (s : ℕ) : Fin 64 := Fin.ofNat 64 (2 * s + sid.val % 2)

theorem place_val (sid : Fin 4) (s : ℕ) (hs : s < 32) : (place sid s).val = 2 * s + sid.val % 2 :=
  Nat.mod_eq_of_lt (by omega)

theorem rank_blk (sid : Fin 4) (c : Dev nD) (s : ℕ) (hs : s < 32) :
    rankOf (blk c (place sid s)) = (rankOf c + (31 - s) * if sid.val % 2 = 0 then 1 else 31) % 32 := by
  rw [(xoff_blk c (place sid s)).2, place_val sid s hs, show (2 * s + sid.val % 2) / 2 = s by omega,
    show (2 * s + sid.val % 2) % 2 = sid.val % 2 by omega]

/-- A stripe's receiver works on the rows its sender worked on, -/
theorem blk_step (sid : Fin 4) (c : Dev nD) (s : ℕ) (hs : s < 31) : blk (fromD sid c) (place sid s) = blk c (place sid (s + 1)) := by
  refine rank_inj _ _ ?_
  rw [rank_blk sid _ s (by omega), rank_blk sid c (s + 1) (by omega), rank_from]
  split <;> omega

/-- and it ends with its own. -/
theorem blk_last (sid : Fin 4) (c : Dev nD) : blk c (place sid 31) = c := by
  refine rank_inj _ _ ?_
  rw [rank_blk sid c 31 (by decide), Nat.sub_self, Nat.zero_mul, Nat.add_zero, Nat.mod_eq_of_lt (rank_lt c)]

end Cert.Ring
-- ==== Proof.Product.lean ====
module

public import proofs.«01_k».proof.Proof.Proto
public import proofs.«01_k».proof.Proof.Payload
public import proofs.«01_k».proof.Proof.Order
public import Idealize.ShloMosaic.Lib.Pipeline.ValueKit.Tiles

/-!
# What the stripes hold

Each partial sum that travels is a sum of products over the devices it has passed, all for the same block of
rows; once round the ring it is the sum over every device, for the rows of the device it ends on.
-/

@[expose] public section

set_option maxRecDepth 16384

noncomputable section

namespace Cert.Ring

open Cert.KernelIdeal Cert.KernelIdeal.Gen
open Idealize.ShloMosaic
open Idealize.ShloMosaic.TcCoe

/-! ## The loads -/

section
variable (m : (ℓ : Loc nD τ sig) → Buf (Elt Ideal) ℓ)

/-- The arguments on device `d`. -/
abbrev xA (d : Dev nD) : S4096x128.Idx → EReal := m ((d : Thread nD τ).loc main_arg0)
abbrev wA (d : Dev nD) : S128x8192.Idx → EReal := m ((d : Thread nD τ).loc main_arg1)

theorem xstg_eq (d : Dev nD) : xstg m d = xA m d := by
  have hz : (fun a => win0_0.index (0 : Fin 1) a * main_arg0.ty.shape.size a) = fun _ => 0 := funext fun a => by fin_cases a <;> decide
  exact Memref.read_access_unit_zero (Elt Ideal) main_arg0 hz (fun a => by rw [congrFun hz a]; simp) _
theorem wstg_eq (d : Dev nD) : wstg m d = wA m d := by
  have hz : (fun a => win0_1.index (0 : Fin 1) a * main_arg1.ty.shape.size a) = fun _ => 0 := funext fun a => by fin_cases a <;> decide
  exact Memref.read_access_unit_zero (Elt Ideal) main_arg1 hz (fun a => by rw [congrFun hz a]; simp) _

/-- Row `i` of block `b`, and column `j` of stripe `sid`. -/
def rowAt (b : Dev nD) (i : Fin 128) : Fin 4096 := ⟨128 * b.val + i.val, by have : b.val < 32 := b.isLt; omega⟩
def colAt (sid : Fin 4) (j : Fin 2048) : Fin 8192 := ⟨colOf sid + j.val, by unfold colOf; omega⟩

theorem xat_at (c : Dev nD) (p : Fin 64) (i k : Fin 128) : xat m c p (ix2 i k) = xA m c (ix2 (rowAt (blk c p) i) k) := by
  unfold xat
  rw [xstg_eq]
  show xA m c _ = _
  refine congrArg (xA m c) (funext fun a => Fin.ext ?_)
  refine (Rect.idx_unit_val _ _ (k0_off1_inb c _) _ a).trans ?_
  fin_cases a
  · exact congrArg (· + i.val) ((xoff_blk c p).1.1)
  · exact (congrArg (· + k.val) ((xoff_blk c p).1.2)).trans (Nat.zero_add _)

theorem wcol_at (c : Dev nD) (sid : Fin 4) (k : Fin 128) (j : Fin 2048) : wcol m c sid (ix2 k j) = wA m c (ix2 k (colAt sid j)) := by
  unfold wcol
  rw [wstg_eq]
  show wA m c _ = _
  refine congrArg (wA m c) (funext fun a => Fin.ext ?_)
  refine (Rect.idx_unit_val _ _ (inb_col sid) _ a).trans ?_
  fin_cases a
  · exact Nat.zero_add _
  · rfl

theorem whalf_at (c : Dev nD) (sid : Fin 4) (k : Fin 128) (j : Fin 2048) :
    whalf m c (half sid) (ix2 k (inHalf sid j)) = wA m c (ix2 k (colAt sid j)) := by
  unfold whalf
  rw [wstg_eq]
  show wA m c _ = _
  refine congrArg (wA m c) (funext fun a => Fin.ext ?_)
  refine (Rect.idx_unit_val _ _ (inb_half (half sid)) _ a).trans ?_
  fin_cases a
  · exact Nat.zero_add _
  · show 4096 * (sid.val % 2) + (2048 * (sid.val / 2) + j.val) = 4096 * (sid.val % 2) + 2048 * (sid.val / 2) + j.val
    omega

/-! ## The sums -/

/-- The product of row `r` and column `j` over the share of the contracted axis that device `d` holds. -/
def share (d : Dev nD) (r : Fin 4096) (j : Fin 8192) : EReal := ∑ k : Fin 128, xA m d (ix2 r k) * wA m d (ix2 k j)

theorem chunk_at (c : Dev nD) (sid : Fin 4) (s : ℕ) (i : Fin 128) (j : Fin 2048) :
    chunk m c s (half sid) (ix2 i (inHalf sid j)) = share m c (rowAt (blk c (place sid s)) i) (colAt sid j) := by
  unfold chunk
  rw [pay8_at]
  refine Finset.sum_congr rfl fun k _ => ?_
  rw [whalf_at]
  exact congrArg (· * _) (xat_at m c (place sid s) i k)

theorem part_at (sid : Fin 4) (i : Fin 128) (j : Fin 2048) : ∀ (n : ℕ) (hn : n < 32) (c : Dev nD),
    part m sid n c (ix4 0 0 i j)
      = ∑ t ∈ Finset.range (n + 1), share m ((fromD sid)^[t] c) (rowAt (blk c (place sid n)) i) (colAt sid j)
  | 0, _, c => by
    rw [Finset.sum_range_one]
    unfold part
    rw [pay2_at]
    refine Finset.sum_congr rfl fun k _ => ?_
    rw [wcol_at]
    refine congrArg (· * _) ((xat_at m c _ i k).trans ?_)
    unfold place
    rw [Nat.mul_zero, Nat.zero_add]
    rfl
  | n + 1, hn, c => by
    unfold part
    rw [addP_at, chunk_at, part_at sid i j n (by omega), Finset.sum_range_succ' _ (n + 1), blk_step sid c n (by omega)]
    rfl

/-- A finished stripe: the sum over every device, for the rows of the device it ends on. -/
theorem outv_at (c : Dev nD) (sid : Fin 4) (i : Fin 128) (j : Fin 2048) :
    outv m c sid (ix2 i j) = ∑ d, share m d (rowAt c i) (colAt sid j) := by
  rw [← sum_ring sid c]
  unfold outv
  rw [outP_at, chunk_at, part_at m sid i j 30 (by decide), Finset.sum_range_succ' _ 31, blk_step sid c 30 (by decide), blk_last]
  rfl

end

end Cert.Ring
-- ==== Proof.Reference.lean ====
module

public import proofs.«01_k».proof.Proof.Payload
public import proofs.«01_k».proof.Proof.Gen.ReferenceIdeal.Run

/-!
# What the reference computes

The plain product of the whole arrays, its greatest magnitude, and the product quantised.
-/

@[expose] public section

set_option maxRecDepth 16384

noncomputable section

namespace Cert.Ring

open Cert.ReferenceIdeal Cert.ReferenceIdeal.Gen
open Idealize.ShloMosaic Idealize.ShloMosaic.TcCoe Idealize.SL.Sem

/-- Entry `(r, j)` of the product. -/
def whole (X : S4096x4096.Idx → EReal) (W : S4096x8192.Idx → EReal) (r : Fin 4096) (j : Fin 8192) : EReal :=
  ∑ k : Fin 4096, X (ix2 r k) * W (ix2 k j)

/-- The product, as the reference spells it. -/
def dotV (X : FVec Ideal S4096x4096 .f32) (W : FVec Ideal S4096x8192 .f32) : FVec Ideal S4096x8192 .f32 :=
  Host.dotGeneral dot_S4096x4096_S4096x8192_S4096x8192_1_0_0_1_n_n none X W

theorem dotV_at (X : FVec Ideal S4096x4096 .f32) (W : FVec Ideal S4096x8192 .f32) (r : Fin 4096) (j : Fin 8192) :
    dotV X W (ix2 r j) = whole X W r j := by
  pointwise [dotV, whole]

/-- Its greatest magnitude. -/
def greatestV (y : FVec Ideal S4096x8192 .f32) : FVec Ideal S_ .f32 :=
  Host.reduce FloatOps.maximumf (Host.absf y) (constant S_ .f32 0xFF800000#32) reducesTo_S4096x8192_S_d0_1 h_S_
def greatest (y : FVec Ideal S4096x8192 .f32) : EReal := greatestV y ix0

theorem greatest_le (y : FVec Ideal S4096x8192 .f32) (B : EReal) :
    greatest y ≤ B ↔ ∀ (r : Fin 4096) (j : Fin 8192), mag (y (ix2 r j)) ≤ B := by
  pointwise [greatest, greatestV]
  rw [Finset.fold_max_le]
  simp only [Finset.mem_univ, forall_true_left, Prod.forall]
  exact ⟨fun h => h.2, fun h => ⟨start_le B, h⟩⟩

/-- The quantised array, as the reference spells it. -/
def quantV (y : FVec Ideal S4096x8192 .f32) : FVec Ideal S4096x8192 .f32 :=
  have s : FVec Ideal S_ .f32 := Host.divf (greatestV y) (constant S_ .f32 0x42FE0000#32)
  mulf (minimumf (broadcastInDim S4096x8192 ![] bcast_S_S4096x8192 (id (constant S_ .f32 0x42FE0000#32)))
      (maximumf (broadcastInDim S4096x8192 ![] bcast_S_S4096x8192 (id (constant S_ .f32 0xC2FE0000#32)))
        (Host.roundeven (Host.divf y (broadcastInDim S4096x8192 ![] bcast_S_S4096x8192 s)))))
    (broadcastInDim S4096x8192 ![] bcast_S_S4096x8192 s)

theorem quantV_at (y : FVec Ideal S4096x8192 .f32) (i : S4096x8192.Idx) : quantV y i = quantised (greatest y) (y i) := by
  unfold quantV greatest
  generalize greatestV y = A
  pointwise [quantised, id]

/-- The reference's run, read. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = quantV (dotV (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

end Cert.Ring
-- ==== Proof.Equation.lean ====
module

public import proofs.«01_k».proof.Proof.Product
public import proofs.«01_k».proof.Proof.Reference
public import proofs.«01_k».proof.Proof.Body
public import Idealize.ShloMosaic.Lib.Layout

/-!
# The equation

Where the devices hold the blocks of the whole arrays, what each device ends with is its block of the
reference's result.
-/

@[expose] public section

set_option maxRecDepth 16384

noncomputable section

namespace Cert.Ring

open Cert.KernelIdeal Cert.KernelIdeal.Gen
open Idealize.ShloMosaic
open Idealize.ShloMosaic.TcCoe

variable (m : (ℓ : Loc nD τ sig) → Buf (Elt Ideal) ℓ)

/-! ## One device's array -/

theorem colAt_surj (j : Fin 8192) : colAt (colSid j.val) ⟨j.val % 2048, Nat.mod_lt _ (by decide)⟩ = j := by
  refine Fin.ext ?_
  show 4096 * ((2 * (j.val / 2048 % 2) + j.val / 2048 / 2 % 2) % 2) + 2048 * ((2 * (j.val / 2048 % 2) + j.val / 2048 / 2 % 2) / 2) + j.val % 2048 = j.val
  have hq : j.val / 2048 = 0 ∨ j.val / 2048 = 1 ∨ j.val / 2048 = 2 ∨ j.val / 2048 = 3 := by have := j.isLt; omega
  have := Nat.div_add_mod j.val 2048
  rcases hq with h | h | h | h <;> rw [h] at this ⊢ <;> omega

/-- The product before quantisation on device `c`. -/
theorem yv_at (c : Dev nD) (i : Fin 128) (j : Fin 8192) : yv m c (ix2 i j) = ∑ d, share m d (rowAt c i) j := by
  have h := outv_at m c (colSid j.val) i ⟨j.val % 2048, Nat.mod_lt _ (by decide)⟩
  rw [colAt_surj] at h
  rw [← h]
  unfold yv
  refine congrArg (outv m c (colSid j.val)) ?_
  funext a
  fin_cases a <;> rfl

/-! ## The maximum -/

theorem amax_le (d : Dev nD) (B : EReal) :
    (amax m d : EReal) ≤ B ↔ ∀ (i : Fin 128) (j : Fin 8192), mag (∑ e, share m e (rowAt d i) j) ≤ B := by
  have hs (sid : Fin 4) : (amx m d sid : EReal) ≤ B ↔ ∀ (i : Fin 128) (j : Fin 2048), mag (∑ e, share m e (rowAt d i) (colAt sid j)) ≤ B := by
    unfold amx
    rw [amaxP_le]
    exact forall_congr' fun i => forall_congr' fun j => by rw [← outv_at]; rfl
  unfold amax
  rw [amax4_le, hs, hs, hs, hs]
  constructor
  · rintro ⟨⟨h0, h1⟩, h2, h3⟩ i j
    rw [← colAt_surj j]
    generalize colSid j.val = s
    fin_cases s
    exacts [h0 i _, h1 i _, h2 i _, h3 i _]
  · exact fun h => ⟨⟨fun i j => h i _, fun i j => h i _⟩, fun i j => h i _, fun i j => h i _⟩

theorem axFrom_surj (c d : Dev nD) : ∃ o, axFrom o c = d := by
  have hc : c.val < 32 := c.isLt
  have hd : d.val < 32 := d.isLt
  refine ⟨⟨(c.val + 32 - d.val) % 32, Nat.mod_lt _ (by decide)⟩, Fin.ext ?_⟩
  show (c.val + 32 - (c.val + 32 - d.val) % 32) % 32 = d.val
  omega

/-- After the exchange every device has the greatest magnitude of the whole product. -/
theorem axv_le (c : Dev nD) (B : EReal) :
    (k0_pay238 (axv m c) : EReal) ≤ B ↔ ∀ (r : Fin 4096) (j : Fin 8192), mag (∑ e, share m e r j) ≤ B := by
  rw [pay238_le]
  constructor
  · intro h r j
    obtain ⟨o, ho⟩ := axFrom_surj c ⟨r.val / 128, by have := r.isLt; show _ < 32; omega⟩
    have h' : (amax m (axFrom o c) : EReal) ≤ B := h o 0 0
    rw [ho, amax_le] at h'
    have hr : rowAt ⟨r.val / 128, by have := r.isLt; show _ < 32; omega⟩ ⟨r.val % 128, Nat.mod_lt _ (by decide)⟩ = r :=
      Fin.ext (by show 128 * (r.val / 128) + r.val % 128 = r.val; omega)
    have h'' := h' ⟨r.val % 128, Nat.mod_lt _ (by decide)⟩ j
    rwa [hr] at h''
  · exact fun h o _ _ => (amax_le m (axFrom o c) B).mpr fun i j => h _ j

/-! ## The whole arrays -/

section
variable (X : Cert.ReferenceIdeal.S4096x4096.Idx → EReal) (W : Cert.ReferenceIdeal.S4096x8192.Idx → EReal)

/-- The devices hold the blocks of `X` and `W`. -/
def Blocks : Prop := ∀ c : Dev nD,
  xA m c = Layout.block ⟨2, ![4096, 128]⟩ ⟨2, ![4096, 4096]⟩ 1 32 c X ∧ wA m c = Layout.block ⟨2, ![128, 8192]⟩ ⟨2, ![4096, 8192]⟩ 0 32 c W

variable {m X W}

/-- The shares of all devices make up the product. -/
theorem sum_share (h : Blocks m X W) (r : Fin 4096) (j : Fin 8192) : ∑ d, share m d r j = whole X W r j := by
  unfold whole
  rw [← (finProdFinEquiv (m := 32) (n := 128)).sum_comp, Fintype.sum_prod_type]
  refine Finset.sum_congr rfl fun d _ => Finset.sum_congr rfl fun k _ => ?_
  rw [(h d).1, (h d).2]
  have e : (finProdFinEquiv (m := 32) (n := 128) (d, k)).val = d.val * 128 + k.val := by
    rw [finProdFinEquiv_apply_val]
    show k.val + 128 * d.val = d.val * 128 + k.val
    omega
  refine congrArg₂ (· * ·) (congrArg X ?_) (congrArg W ?_)
  · funext a
    refine Fin.ext ?_
    fin_cases a
    · rfl
    · exact e.symm
  · funext a
    refine Fin.ext ?_
    fin_cases a
    · exact e.symm
    · rfl

theorem axv_eq (h : Blocks m X W) (c : Dev nD) : (k0_pay238 (axv m c) : EReal) = greatest (dotV X W) :=
  eq_of_forall_ge_iff fun B => by
    rw [axv_le, greatest_le]
    exact forall_congr' fun r => forall_congr' fun j => by rw [sum_share h, dotV_at]

/-- Each device's array is its block of the reference's. -/
theorem outFin_eq (h : Blocks m X W) (c : Dev nD) :
    outFin m c = Layout.block ⟨2, ![128, 8192]⟩ ⟨2, ![4096, 8192]⟩ 0 32 c (quantV (dotV X W)) := by
  funext i
  obtain ⟨i, j, rfl⟩ : ∃ (a : Fin 128) (b : Fin 8192), i = ix2 a b := ⟨i 0, i 1, ValueIdx.eq_ix2 i⟩
  have hi : ∀ ht, Layout.Tiles.idx (S := ⟨2, ![128, 8192]⟩) (T := ⟨2, ![4096, 8192]⟩) (a := 0) (k := 32) ht c (ix2 i j) = ix2 (rowAt c i) j := fun ht => by
    funext a
    refine Fin.ext ?_
    fin_cases a
    · exact congrArg (· + i.val) (Nat.mul_comm _ _)
    · rfl
  rw [Layout.block_apply, hi, quantV_at, dotV_at]
  unfold outFin quant
  refine (quant_at _ _ _).trans ?_
  rw [axv_eq h, yv_at, sum_share h]

end

end Cert.Ring
-- ==== Proof.Result.lean ====
module

public import proofs.«01_k».proof.Proof.Launch
public import proofs.«01_k».proof.Proof.Equation
public import proofs.«01_k».proof.Proof.Gen.KernelIdeal.Points
public import Idealize.ShloMosaic.Lib.Pipeline.Value

/-!
# The result array

What the array of results holds after the run: the whole of what the body leaves.
-/

@[expose] public section

noncomputable section

namespace Cert.Ring

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

theorem out_zero : (fun a => win0_2.index t₀ a * main_v1.ty.shape.size a) = fun _ => 0 :=
  funext fun a => by fin_cases a <;> decide

theorem finalA_out (c : Dev nD) : finalA m ρ c (2 : Fin 3) = outFin m c := by
  refine (dats (F := F) m ρ 0 c).arrAt_eq_of_cover 2 (outFin m c) (fun t _ => ?_) fun i => ⟨t₀, flush0_2 t₀, ?_⟩
  · rw [fin_N t]
    show (cfg0.win 2).cut (grid0.coords t₀) ((dats m ρ 0 c).after 2 t₀) = _
    exact (Memref.read_access_unit_zero (Elt F) main_v1 out_zero (fun a => by rw [congrFun out_zero a]; simp) (outFin m c)).symm
  · show i ∈ ((View.whole main_v1).slice (win0_2.rect t₀)).set
    rw [View.set_slice_whole, Rect.mem_set_unit]
    intro a
    have hz : win0_2.index t₀ a * main_v1.ty.shape.size a = 0 := congrFun out_zero a
    refine ⟨le_of_eq_of_le hz (Nat.zero_le _), lt_of_lt_of_eq (i a).isLt ?_⟩
    show _ = win0_2.index t₀ a * main_v1.ty.shape.size a + _
    rw [hz, Nat.zero_add]

end Cert.Ring
-- ==== Proof.lean ====
module

public import proofs.«01_k».proof.Defs
public import proofs.«01_k».proof.Proof.Result
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

/-!
# The claims, together

Each frame is the run of the program with the values dropped; the equation of the two programs is the two runs, their
results equal by `Cert.Ring.outFin_eq`.
-/

@[expose] public section

noncomputable section

namespace Cert.Proof

open Idealize.ShloMosaic Idealize.ShloMosaic.TcCoe Idealize.SL.Sem

/-- The run, read at the arguments. -/
theorem quiet {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c 0).trans (Cert.Ring.finalA_x m ρ c), (h.1 c 1).trans (Cert.Ring.finalA_w m ρ c)⟩, h.2⟩)
    (Cert.Ring.run_main (F := F) m ρ)

theorem frame_kernelIdeal : Cert.quiescent_KernelIdeal := fun m ρ _ => quiet m ρ

/-- The kernel as written has the same text: the two tables of bodies are equal. -/
theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  obtain ⟨_ | _, h⟩ := l
  · rfl
  · exact absurd h (Nat.not_lt.2 (Nat.le_add_left _ _))
theorem tables_eq : Cert.Kernel.defs (F := Bits) = Cert.KernelIdeal.defs (F := Bits) := by
  unfold Cert.Kernel.defs Cert.KernelIdeal.defs
  rw [bodies_eq]
  rfl

theorem frame_kernel : Cert.quiescent_Kernel := fun m ρ _ => by
  rw [tables_eq]
  exact quiet (F := Bits) m ρ

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- On blocks of the same arrays every device ends with its block of the reference's result. -/
theorem same : Cert.algebraic_KernelIdeal_ReferenceIdeal := fun m g m' g' _ h =>
  ⟨Cert.Ring.quantV (Cert.Ring.dotV
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))),
    (θ_run Cert.KernelIdeal.defs _ _).mono
      (fun _ r c => ⟨((r.1 c 2).trans (Cert.Ring.finalA_out m g c)).trans (Cert.Ring.outFin_eq h c),
        (r.1 c 0).trans (Cert.Ring.finalA_x m g c), (r.1 c 1).trans (Cert.Ring.finalA_w m g c)⟩)
      (Cert.Ring.run_main (F := Ideal) m g),
    (θ_run Cert.ReferenceIdeal.defs _ _).mono (fun _ r => r 0) (Cert.Ring.run_reference m' g')⟩

theorem claim : Cert.Claim :=
  ⟨Cert.Kernel.Gen.facts, Cert.KernelIdeal.Gen.facts, Cert.ReferenceIdeal.Gen.facts, frame_kernel, frame_kernelIdeal, frame_reference, trivial, same⟩

end Cert.Proof

end
